-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "mu_sq" .f32 0x3F4F5C29#32 ((81 / 100 : ℝ) : EReal)
  ∧ IdealRules.named_const.Statement Cert.KernelIdeal.κ "hundredth" .f32 0x3C23D70A#32 ((1 / 100 : ℝ) : EReal)
  ∧ IdealRules.named_const.Statement Cert.KernelIdeal.κ "cross" .f32 0x3E3851EC#32 ((9 / 50 : ℝ) : EReal)
  ∧ IdealRules.named_const.Statement Cert.KernelIdeal.κ "neg_rest" .f32 0xBDCCCCCD#32 ((-1 / 10 : ℝ) : EReal)
  ∧ IdealRules.named_const.Statement Cert.KernelIdeal.κ "rest" .f32 0x3DCCCCCD#32 ((1 / 10 : ℝ) : EReal)
  ∧ IdealRules.named_const.Statement Cert.KernelIdeal.κ "log_mu" .f32 0xBDD7C741#32 ((Real.log (9 / 10) : ℝ) : EReal)
  ∧ IdealRules.named_const.Statement Cert.KernelIdeal.κ "rho" .f32 0x3F7D70A4#32 ((99 / 100 : ℝ) : EReal)
  ∧ IdealRules.named_const.Statement Cert.KernelIdeal.κ "top" .f32 0x7F61B1E6#32 ⊤
  ∧ IdealRules.named_const.Statement Cert.KernelIdeal.κ "two_thirds" .f32 0x3F2AAAAB#32 ((2 / 3 : ℝ) : EReal)
  ∧ IdealRules.named_const.Statement Cert.KernelIdeal.κ "ninth" .f32 0x3DE38E39#32 ((1 / 9 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2048x2048 : Shape := ⟨2, ![2048, 2048]⟩
abbrev S2048 : Shape := ⟨1, ![2048]⟩
abbrev S64x2048 : Shape := ⟨2, ![64, 2048]⟩
abbrev S64 : Shape := ⟨1, ![64]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S64x2048 : S_.BroadcastsInDim S64x2048 (![] : Fin 0 → Fin S64x2048.rank)
  reducesTo_S64x2048_S_d0_1 : S64x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S2048x2048 .f32) (main_arg1 : IVec S2048 32) (main_arg2 : FVec F S64x2048 .f32) (main_arg3 : FVec F S64 .f32) (main_arg4 : FVec F S2048 .f32) (main_arg5 : IVec S_ 1) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S64x2048 .f32 := Host.absf main_arg2
  let main_cst_0 : FVec F S_ .f32 := constant S_ .f32 0x7F800000#32
  let main_v5 : FVec F S64x2048 .f32 := broadcastInDim S64x2048 ![] bcast_S_S64x2048 main_cst_0
  let main_v6 : IVec S64x2048 1 := cmpf .olt main_v4 main_v5
  let main_c_1 : IVec S_ 1 := constantI S_ 1 1#1
  let main_v7 : IVec S_ 1 := (fun x v => Host.reduce IntOp.andi x v reducesTo_S64x2048_S_d0_1 h_S_) main_v6 main_c_1
  let main_v8 : IVec S_ 1 := andi main_v3 main_v7
  let main_v9 : FVec F S2048 .f32 := Host.absf main_arg4
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S2048x2048 : Shape := ⟨2, ![2048, 2048]⟩
abbrev S2048 : Shape := ⟨1, ![2048]⟩
abbrev S64x2048 : Shape := ⟨2, ![64, 2048]⟩
abbrev S64 : Shape := ⟨1, ![64]⟩
abbrev S_ : Shape := ⟨0, ![]⟩
abbrev S1 : Shape := ⟨1, ![1]⟩
abbrev S1x2048 : Shape := ⟨2, ![1, 2048]⟩
abbrev S64x64 : Shape := ⟨2, ![64, 64]⟩
abbrev S1x64 : Shape := ⟨2, ![1, 64]⟩
abbrev S64x1 : Shape := ⟨2, ![64, 1]⟩
abbrev S1x1 : Shape := ⟨2, ![1, 1]⟩
abbrev S1x1x2048 : Shape := ⟨3, ![1, 1, 2048]⟩
abbrev S1x1x1 : Shape := ⟨3, ![1, 1, 1]⟩
abbrev S256x64 : Shape := ⟨2, ![256, 64]⟩
abbrev S256x2048 : Shape := ⟨2, ![256, 2048]⟩
abbrev S256 : Shape := ⟨1, ![256]⟩
abbrev S256x1 : Shape := ⟨2, ![256, 1]⟩
abbrev S1x256x1 : Shape := ⟨3, ![1, 256, 1]⟩

abbrev nBuf : Space → Nat
  | .hbm => 14
  | .vmem => 6
  | .smem => 3
  | _ => 0

abbrev bufTy : (tb : Table) → Fin (tcTables nBuf tb) → BufTy
  | .hbm, ⟨0, _⟩ => ⟨S2048x2048, .f32⟩
  | .hbm, ⟨1, _⟩ => ⟨S64x2048, .f32⟩
  | .hbm, ⟨2, _⟩ => ⟨S64, .f32⟩
  | .hbm, ⟨3, _⟩ => ⟨S2048, .f32⟩
  | .hbm, ⟨4, _⟩ => ⟨S_, .i1⟩
  | .hbm, ⟨5, _⟩ => ⟨S_, .i32⟩
  | .hbm, ⟨6, _⟩ => ⟨S_, .i32⟩
  | .hbm, ⟨7, _⟩ => ⟨S2048, .i32⟩
  | .hbm, ⟨8, _⟩ => ⟨S2048, .i1⟩
  | .hbm, ⟨9, _⟩ => ⟨S2048, .f32⟩
  | .hbm, ⟨10, _⟩ => ⟨S1x2048, .f32⟩
  | .hbm, ⟨11, _⟩ => ⟨S1x2048, .f32⟩
  | .hbm, ⟨12, _⟩ => ⟨S1, .f32⟩
  | .hbm, ⟨13, _⟩ => ⟨S_, .f32⟩
  | .local _ .vmem, ⟨0, _⟩ => ⟨S2048x2048, .f32⟩
  | .local _ .vmem, ⟨1, _⟩ => ⟨S1x2048, .f32⟩
  | .local _ .vmem, ⟨2, _⟩ => ⟨S64x2048, .f32⟩
  | .local _ .vmem, ⟨3, _⟩ => ⟨S1x2048, .f32⟩
  | .local _ .vmem, ⟨4, _⟩ => ⟨S64x2048, .f32⟩
  | .local _ .vmem, ⟨5, _⟩ => ⟨S64x64, .f32⟩
  | .local _ .smem, ⟨0, _⟩ => ⟨S2048, .i32⟩
  | .local _ .smem, ⟨1, _⟩ => ⟨S1, .i32⟩
  | .local _ .smem, ⟨2, _⟩ => ⟨S1, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨2, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_call0_v0 : Ref sig .tc := ⟨.hbm, 5, rfl⟩
abbrev main_call0_c : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_v0 : Ref sig .tc := ⟨.hbm, 13, rfl⟩
abbrev main_arg1 : Ref sig .tc := ⟨.smem, 0, rfl⟩
abbrev main_call0_v1 : Ref sig .tc := ⟨.smem, 1, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_stg4_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

abbrev pre0 : Pipeline.Prefetch sig := ⟨2, ![main_arg1.idx, main_call0_v1.idx], fun | 0 => main_arg1.names | 1 => main_call0_v1.names | ⟨_ + 2, h⟩ => absurd h (Nat.not_lt.2 (Nat.le_add_left _ _)), fun | 0 => rfl | 1 => rfl | ⟨_ + 2, h⟩ => absurd h (Nat.not_lt.2 (Nat.le_add_left _ _))⟩

@[reducible] def k0_t1_loop : Scf.Loop 32 :=
  let c0_i32 : BitVec 32 := 0#32
  let c32_i32 : BitVec 32 := 32#32
  let v22 : BitVec 32 := Scalar.addi c0_i32 c32_i32
  let c1_i32 : BitVec 32 := 1#32
  ⟨c0_i32, v22, c1_i32⟩
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let c64_i32 : BitVec 32 := 64#32
  let v81 : BitVec 32 := Scalar.muli arg10 c64_i32
  let v82 : Index := Scalar.indexCast v81
  let c0_46 : Index := 0#32
  ![v82.toNat, 0]
@[reducible] def k0_t2_loop : Scf.Loop 32 :=
  let c0_i32_55 : BitVec 32 := 0#32
  let c64_i32_56 : BitVec 32 := 64#32
  let v95 : BitVec 32 := Scalar.addi c0_i32_55 c64_i32_56
  let c1_i32_57 : BitVec 32 := 1#32
  ⟨c0_i32_55, v95, c1_i32_57⟩
def k0_off2 (k0_t1 : Fin k0_t1_loop.trips) (k0_t2 : Fin k0_t2_loop.trips) : Fin 1 → Nat :=
  let c0_i32 : BitVec 32 := 0#32
  let c1_i32 : BitVec 32 := 1#32
  let arg10 : BitVec 32 := Scf.iv c0_i32 c1_i32 k0_t1
  let c64_i32_74 : BitVec 32 := 64#32
  let v131 : BitVec 32 := Scalar.muli arg10 c64_i32_74
  let c0_i32_55 : BitVec 32 := 0#32
  let c1_i32_57 : BitVec 32 := 1#32
  let arg12 : BitVec 32 := Scf.iv c0_i32_55 c1_i32_57 k0_t2
  let v132 : BitVec 32 := Scalar.addi v131 arg12
  let v133 : Index := Scalar.indexCast v132
  ![v133.toNat]
def k0_off3 (k0_t2 : Fin k0_t2_loop.trips) : Fin 2 → Nat :=
  let c0_i32_55 : BitVec 32 := 0#32
  let c1_i32_57 : BitVec 32 := 1#32
  let arg12 : BitVec 32 := Scf.iv c0_i32_55 c1_i32_57 k0_t2
  let v155 : Index := Scalar.indexCast arg12
  let c0_83 : Index := 0#32
  ![v155.toNat, 0]
@[reducible] def k0_t3_loop : Scf.Loop 32 :=
  let c0_i32_38 : BitVec 32 := 0#32
  let c8_i32 : BitVec 32 := 8#32
  let v72 : BitVec 32 := Scalar.addi c0_i32_38 c8_i32
  let c1_i32_39 : BitVec 32 := 1#32
  ⟨c0_i32_38, v72, c1_i32_39⟩
def k0_off4 (k0_t3 : Fin k0_t3_loop.trips) : Fin 2 → Nat :=
  let c0_i32_38 : BitVec 32 := 0#32
  let c1_i32_39 : BitVec 32 := 1#32
  let arg10 : BitVec 32 := Scf.iv c0_i32_38 c1_i32_39 k0_t3
  let c256_i32 : BitVec 32 := 256#32
  let v81 : BitVec 32 := Scalar.muli arg10 c256_i32
  let v82 : Index := Scalar.indexCast v81
  let c0_46 : Index := 0#32
  ![v82.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .vmem S2048x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== KernelIdeal.lean ====
variable {F : FTy → Type} [FloatOps F] [Named F]
def κ : String → Option EReal := fun
  | "cross" => some ((9 / 50 : ℝ) : EReal)
  | "hundredth" => some ((1 / 100 : ℝ) : EReal)
  | "log_mu" => some ((Real.log (9 / 10) : ℝ) : EReal)
  | "mu_sq" => some ((81 / 100 : ℝ) : EReal)
  | "neg_rest" => some ((-1 / 10 : ℝ) : EReal)
  | "ninth" => some ((1 / 9 : ℝ) : EReal)
  | "rest" => some ((1 / 10 : ℝ) : EReal)
  | "rho" => some ((99 / 100 : ℝ) : EReal)
  | "top" => some ⊤
  | "two_thirds" => some ((2 / 3 : ℝ) : EReal)
  | _ => none
-- ==== ReferenceIdeal.lean ====
abbrev S2048x2048 : Shape := ⟨2, ![2048, 2048]⟩
abbrev S2048 : Shape := ⟨1, ![2048]⟩
abbrev S64x2048 : Shape := ⟨2, ![64, 2048]⟩
abbrev S64 : Shape := ⟨1, ![64]⟩
abbrev S_ : Shape := ⟨0, ![]⟩
abbrev S1x2048 : Shape := ⟨2, ![1, 2048]⟩
abbrev S1 : Shape := ⟨1, ![1]⟩
abbrev S2048x1 : Shape := ⟨2, ![2048, 1]⟩
abbrev S1x64 : Shape := ⟨2, ![1, 64]⟩
abbrev S2048x64 : Shape := ⟨2, ![2048, 64]⟩
abbrev S2048x3 : Shape := ⟨2, ![2048, 3]⟩
abbrev S2048x3x1 : Shape := ⟨3, ![2048, 3, 1]⟩
abbrev S2048x3x2048 : Shape := ⟨3, ![2048, 3, 2048]⟩

abbrev nBuf : Space → Nat
  | .hbm => 178
  | .vmem => 0
  | .smem => 0
  | _ => 0

abbrev hbmTy0_0 (i : Nat) : BufTy := match i % 128 with
  | 0 => ⟨S2048x2048, .f32⟩
  | 1 => ⟨S2048, .i32⟩
  | 2 => ⟨S64x2048, .f32⟩
  | 3 => ⟨S64, .f32⟩
  | 4 => ⟨S2048, .f32⟩
  | 5 => ⟨S_, .i1⟩
  | 6 => ⟨S_, .f32⟩
  | 7 => ⟨S_, .f32⟩
  | 8 => ⟨S_, .f32⟩
  | 9 => ⟨S_, .i32⟩
  | 10 => ⟨S2048x2048, .f32⟩
  | 11 => ⟨S2048, .i32⟩
  | 12 => ⟨S_, .f32⟩
  | 13 => ⟨S_, .i32⟩
  | 14 => ⟨S64x2048, .f32⟩
  | 15 => ⟨S_, .i32⟩
  | 16 => ⟨S_, .i1⟩
  | 17 => ⟨S_, .i32⟩
  | 18 => ⟨S1x2048, .f32⟩
  | 19 => ⟨S2048, .f32⟩
  | 20 => ⟨S1, .i32⟩
  | 21 => ⟨S_, .i32⟩
  | 22 => ⟨S1x2048, .f32⟩
  | 23 => ⟨S64x2048, .f32⟩
  | 24 => ⟨S64x2048, .f32⟩
  | 25 => ⟨S64x2048, .f32⟩
  | 26 => ⟨S_, .f32⟩
  | 27 => ⟨S64, .f32⟩
  | 28 => ⟨S64, .f32⟩
  | 29 => ⟨S64, .f32⟩
  | 30 => ⟨S1, .f32⟩
  | 31 => ⟨S1, .i32⟩
  | 32 => ⟨S_, .i32⟩
  | 33 => ⟨S_, .i32⟩
  | 34 => ⟨S_, .i1⟩
  | 35 => ⟨S_, .i32⟩
  | 36 => ⟨S_, .i32⟩
  | 37 => ⟨S_, .i32⟩
  | 38 => ⟨S_, .i32⟩
  | 39 => ⟨S_, .i32⟩
  | 40 => ⟨S_, .i1⟩
  | 41 => ⟨S_, .i32⟩
  | 42 => ⟨S_, .i32⟩
  | 43 => ⟨S_, .i32⟩
  | 44 => ⟨S_, .i32⟩
  | 45 => ⟨S_, .i32⟩
  | 46 => ⟨S1x2048, .f32⟩
  | 47 => ⟨S2048, .f32⟩
  | 48 => ⟨S2048, .f32⟩
  | 49 => ⟨S2048, .f32⟩
  | 50 => ⟨S_, .f32⟩
  | 51 => ⟨S_, .f32⟩
  | 52 => ⟨S2048, .f32⟩
  | 53 => ⟨S2048, .f32⟩
  | 54 => ⟨S2048, .f32⟩
  | 55 => ⟨S_, .i32⟩
  | 56 => ⟨S_, .i1⟩
  | 57 => ⟨S_, .i32⟩
  | 58 => ⟨S_, .i1⟩
  | 59 => ⟨S_, .i32⟩
  | 60 => ⟨S_, .i32⟩
  | 61 => ⟨S_, .i32⟩
  | 62 => ⟨S_, .i32⟩
  | 63 => ⟨S_, .i32⟩
  | 64 => ⟨S_, .i1⟩
  | 65 => ⟨S_, .i32⟩
  | 66 => ⟨S_, .i32⟩
  | 67 => ⟨S_, .i32⟩
  | 68 => ⟨S_, .i32⟩
  | 69 => ⟨S_, .i32⟩
  | 70 => ⟨S1x2048, .f32⟩
  | 71 => ⟨S2048, .f32⟩
  | 72 => ⟨S2048, .f32⟩
  | 73 => ⟨S_, .i32⟩
  | 74 => ⟨S_, .i1⟩
  | 75 => ⟨S_, .i32⟩
  | 76 => ⟨S_, .i32⟩
  | 77 => ⟨S_, .i32⟩
  | 78 => ⟨S1, .i32⟩
  | 79 => ⟨S64x2048, .f32⟩
  | 80 => ⟨S_, .i32⟩
  | 81 => ⟨S_, .i32⟩
  | 82 => ⟨S_, .i32⟩
  | 83 => ⟨S2048, .i32⟩
  | 84 => ⟨S2048, .i1⟩
  | 85 => ⟨S2048, .i32⟩
  | 86 => ⟨S_, .i32⟩
  | 87 => ⟨S_, .i32⟩
  | 88 => ⟨S_, .f32⟩
  | 89 => ⟨S_, .f32⟩
  | 90 => ⟨S_, .f32⟩
  | 91 => ⟨S2048x1, .i1⟩
  | 92 => ⟨S_, .f32⟩
  | 93 => ⟨S2048x2048, .i1⟩
  | 94 => ⟨S2048x2048, .f32⟩
  | 95 => ⟨S2048x2048, .f32⟩
  | 96 => ⟨S_, .f32⟩
  | 97 => ⟨S2048, .f32⟩
  | 98 => ⟨S_, .i32⟩
  | 99 => ⟨S_, .i32⟩
  | 100 => ⟨S_, .f32⟩
  | 101 => ⟨S2048, .f32⟩
  | 102 => ⟨S2048, .f32⟩
  | 103 => ⟨S2048, .f32⟩
  | 104 => ⟨S2048, .f32⟩
  | 105 => ⟨S_, .f32⟩
  | 106 => ⟨S_, .f32⟩
  | 107 => ⟨S2048, .f32⟩
  | 108 => ⟨S2048, .f32⟩
  | 109 => ⟨S2048, .f32⟩
  | 110 => ⟨S2048, .f32⟩
  | 111 => ⟨S_, .i32⟩
  | 112 => ⟨S_, .i1⟩
  | 113 => ⟨S2048, .f32⟩
  | 114 => ⟨S_, .i32⟩
  | 115 => ⟨S_, .i1⟩
  | 116 => ⟨S_, .i1⟩
  | 117 => ⟨S2048x2048, .f32⟩
  | 118 => ⟨S_, .f32⟩
  | 119 => ⟨S2048, .f32⟩
  | 120 => ⟨S2048x1, .f32⟩
  | 121 => ⟨S64x2048, .f32⟩
  | 122 => ⟨S_, .f32⟩
  | 123 => ⟨S64, .f32⟩
  | 124 => ⟨S1x64, .f32⟩
  | 125 => ⟨S2048x64, .f32⟩
  | 126 => ⟨S2048x64, .f32⟩
  | 127 => ⟨S2048x64, .f32⟩
  | _ => ⟨S2048x2048, .f32⟩

abbrev hbmTy0_1 (i : Nat) : BufTy := match i % 128 with
  | 0 => ⟨S2048x64, .f32⟩
  | 1 => ⟨S2048x64, .f32⟩
  | 2 => ⟨S_, .f32⟩
  | 3 => ⟨S2048x64, .f32⟩
  | 4 => ⟨S2048x64, .f32⟩
  | 5 => ⟨S2048x64, .f32⟩
  | 6 => ⟨S_, .f32⟩
  | 7 => ⟨S2048x64, .f32⟩
  | 8 => ⟨S2048x64, .f32⟩
  | 9 => ⟨S2048x64, .f32⟩
  | 10 => ⟨S2048x64, .f32⟩
  | 11 => ⟨S2048x3, .f32⟩
  | 12 => ⟨S2048x3, .i32⟩
  | 13 => ⟨S2048x3x1, .i32⟩
  | 14 => ⟨S2048x3x2048, .f32⟩
  | 15 => ⟨S_, .f32⟩
  | 16 => ⟨S2048x2048, .f32⟩
  | 17 => ⟨S_, .f32⟩
  | 18 => ⟨S2048x2048, .f32⟩
  | 19 => ⟨S2048x2048, .f32⟩
  | 20 => ⟨S2048x2048, .f32⟩
  | 21 => ⟨S2048x2048, .f32⟩
  | 22 => ⟨S_, .f32⟩
  | 23 => ⟨S_, .f32⟩
  | 24 => ⟨S_, .f32⟩
  | 25 => ⟨S_, .f32⟩
  | 26 => ⟨S1x2048, .f32⟩
  | 27 => ⟨S2048x2048, .f32⟩
  | 28 => ⟨S2048x2048, .f32⟩
  | 29 => ⟨S2048x2048, .f32⟩
  | 30 => ⟨S_, .f32⟩
  | 31 => ⟨S2048, .f32⟩
  | 32 => ⟨S2048, .f32⟩
  | 33 => ⟨S_, .f32⟩
  | 34 => ⟨S2048, .f32⟩
  | 35 => ⟨S2048, .f32⟩
  | 36 => ⟨S_, .f32⟩
  | 37 => ⟨S2048, .f32⟩
  | 38 => ⟨S2048, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | _ => ⟨S2048x2048, .f32⟩

abbrev hbmTy (i : Nat) : BufTy := match i / 128 with
  | 0 => hbmTy0_0 i
  | 1 => hbmTy0_1 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_v0 : Ref sig .tc := ⟨.hbm, 8, rfl⟩
abbrev main_c : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v1_4 : Ref sig .tc := ⟨.hbm, 14, rfl⟩
abbrev main_while0c_c_30 : Ref sig .tc := ⟨.hbm, 15, rfl⟩
abbrev main_while0c_v65 : Ref sig .tc := ⟨.hbm, 16, rfl⟩
abbrev main_while0b_call0_c : Ref sig .tc := ⟨.hbm, 17, rfl⟩
abbrev main_while0b_call0_v0 : Ref sig .tc := ⟨.hbm, 18, rfl⟩
abbrev main_while0b_v65 : Ref sig .tc := ⟨.hbm, 19, rfl⟩
abbrev main_while0b_call1_v0 : Ref sig .tc := ⟨.hbm, 20, rfl⟩
abbrev main_while0b_v66 : Ref sig .tc := ⟨.hbm, 21, rfl⟩
abbrev main_while0b_v67 : Ref sig .tc := ⟨.hbm, 22, rfl⟩
abbrev main_while0b_v68 : Ref sig .tc := ⟨.hbm, 23, rfl⟩
abbrev main_while0b_v69 : Ref sig .tc := ⟨.hbm, 24, rfl⟩
abbrev main_while0b_call2_v0 : Ref sig .tc := ⟨.hbm, 25, rfl⟩
abbrev main_while0b_call2_cst : Ref sig .tc := ⟨.hbm, 26, rfl⟩
abbrev main_while0b_call2_v1 : Ref sig .tc := ⟨.hbm, 27, rfl⟩
abbrev main_while0b_v70 : Ref sig .tc := ⟨.hbm, 28, rfl⟩
abbrev main_while0b_v71 : Ref sig .tc := ⟨.hbm, 29, rfl⟩
abbrev main_while0b_values_30 : Ref sig .tc := ⟨.hbm, 30, rfl⟩
abbrev main_while0b_indices_31 : Ref sig .tc := ⟨.hbm, 31, rfl⟩
abbrev main_while0b_v72 : Ref sig .tc := ⟨.hbm, 32, rfl⟩
abbrev main_while0b_c_32 : Ref sig .tc := ⟨.hbm, 33, rfl⟩
abbrev main_while0b_v73 : Ref sig .tc := ⟨.hbm, 34, rfl⟩
abbrev main_while0b_c_33 : Ref sig .tc := ⟨.hbm, 35, rfl⟩
abbrev main_while0b_v74 : Ref sig .tc := ⟨.hbm, 36, rfl⟩
abbrev main_while0b_v75 : Ref sig .tc := ⟨.hbm, 37, rfl⟩
abbrev main_while0b_c_34 : Ref sig .tc := ⟨.hbm, 38, rfl⟩
abbrev main_while0b_c_35 : Ref sig .tc := ⟨.hbm, 39, rfl⟩
abbrev main_while0b_v76 : Ref sig .tc := ⟨.hbm, 40, rfl⟩
abbrev main_while0b_c_36 : Ref sig .tc := ⟨.hbm, 41, rfl⟩
abbrev main_while0b_c_37 : Ref sig .tc := ⟨.hbm, 42, rfl⟩
abbrev main_while0b_v77 : Ref sig .tc := ⟨.hbm, 43, rfl⟩
abbrev main_while0b_c_38 : Ref sig .tc := ⟨.hbm, 44, rfl⟩
abbrev main_while0b_v78 : Ref sig .tc := ⟨.hbm, 45, rfl⟩
abbrev main_while0b_v79 : Ref sig .tc := ⟨.hbm, 46, rfl⟩
abbrev main_while0b_v80 : Ref sig .tc := ⟨.hbm, 47, rfl⟩
abbrev main_while0b_v81 : Ref sig .tc := ⟨.hbm, 48, rfl⟩
abbrev main_while0b_v82 : Ref sig .tc := ⟨.hbm, 49, rfl⟩
abbrev main_while0b_cst_39 : Ref sig .tc := ⟨.hbm, 50, rfl⟩
abbrev main_while0b_v83 : Ref sig .tc := ⟨.hbm, 51, rfl⟩
abbrev main_while0b_v84 : Ref sig .tc := ⟨.hbm, 52, rfl⟩
abbrev main_while0b_v85 : Ref sig .tc := ⟨.hbm, 53, rfl⟩
abbrev main_while0b_v86 : Ref sig .tc := ⟨.hbm, 54, rfl⟩
abbrev main_while0b_c_40 : Ref sig .tc := ⟨.hbm, 55, rfl⟩
abbrev main_while0b_v87 : Ref sig .tc := ⟨.hbm, 56, rfl⟩
abbrev main_while0b_c_41 : Ref sig .tc := ⟨.hbm, 57, rfl⟩
abbrev main_while0b_v88 : Ref sig .tc := ⟨.hbm, 58, rfl⟩
abbrev main_while0b_c_42 : Ref sig .tc := ⟨.hbm, 59, rfl⟩
abbrev main_while0b_v89 : Ref sig .tc := ⟨.hbm, 60, rfl⟩
abbrev main_while0b_v90 : Ref sig .tc := ⟨.hbm, 61, rfl⟩
abbrev main_while0b_c_43 : Ref sig .tc := ⟨.hbm, 62, rfl⟩
abbrev main_while0b_c_44 : Ref sig .tc := ⟨.hbm, 63, rfl⟩
abbrev main_while0b_v91 : Ref sig .tc := ⟨.hbm, 64, rfl⟩
abbrev main_while0b_c_45 : Ref sig .tc := ⟨.hbm, 65, rfl⟩
abbrev main_while0b_c_46 : Ref sig .tc := ⟨.hbm, 66, rfl⟩
abbrev main_while0b_v92 : Ref sig .tc := ⟨.hbm, 67, rfl⟩
abbrev main_while0b_c_47 : Ref sig .tc := ⟨.hbm, 68, rfl⟩
abbrev main_while0b_v93 : Ref sig .tc := ⟨.hbm, 69, rfl⟩
abbrev main_while0b_v94 : Ref sig .tc := ⟨.hbm, 70, rfl⟩
abbrev main_while0b_v95 : Ref sig .tc := ⟨.hbm, 71, rfl⟩
abbrev main_while0b_v96 : Ref sig .tc := ⟨.hbm, 72, rfl⟩
abbrev main_while0b_c_48 : Ref sig .tc := ⟨.hbm, 73, rfl⟩
abbrev main_while0b_v97 : Ref sig .tc := ⟨.hbm, 74, rfl⟩
abbrev main_while0b_c_49 : Ref sig .tc := ⟨.hbm, 75, rfl⟩
abbrev main_while0b_v98 : Ref sig .tc := ⟨.hbm, 76, rfl⟩
abbrev main_while0b_v99 : Ref sig .tc := ⟨.hbm, 77, rfl⟩
abbrev main_while0b_v100 : Ref sig .tc := ⟨.hbm, 78, rfl⟩
abbrev main_while0b_v101 : Ref sig .tc := ⟨.hbm, 79, rfl⟩
abbrev main_while0b_c_50 : Ref sig .tc := ⟨.hbm, 80, rfl⟩
abbrev main_while0b_v102 : Ref sig .tc := ⟨.hbm, 81, rfl⟩
abbrev main_c_1 : Ref sig .tc := ⟨.hbm, 82, rfl⟩
abbrev main_v2 : Ref sig .tc := ⟨.hbm, 83, rfl⟩
abbrev main_v3 : Ref sig .tc := ⟨.hbm, 84, rfl⟩
abbrev main_v4 : Ref sig .tc := ⟨.hbm, 85, rfl⟩
abbrev main_c_2 : Ref sig .tc := ⟨.hbm, 86, rfl⟩
abbrev main_v5 : Ref sig .tc := ⟨.hbm, 87, rfl⟩
abbrev main_cst_3 : Ref sig .tc := ⟨.hbm, 88, rfl⟩
abbrev main_cst_4 : Ref sig .tc := ⟨.hbm, 89, rfl⟩
abbrev main_v6 : Ref sig .tc := ⟨.hbm, 90, rfl⟩
abbrev main_v7 : Ref sig .tc := ⟨.hbm, 91, rfl⟩
abbrev main_cst_5 : Ref sig .tc := ⟨.hbm, 92, rfl⟩
abbrev main_call4_v0 : Ref sig .tc := ⟨.hbm, 93, rfl⟩
abbrev main_call4_v1 : Ref sig .tc := ⟨.hbm, 94, rfl⟩
abbrev main_v8 : Ref sig .tc := ⟨.hbm, 95, rfl⟩
abbrev main_cst_6 : Ref sig .tc := ⟨.hbm, 96, rfl⟩
abbrev main_v9 : Ref sig .tc := ⟨.hbm, 97, rfl⟩
abbrev main_c_7 : Ref sig .tc := ⟨.hbm, 98, rfl⟩
abbrev main_v10 : Ref sig .tc := ⟨.hbm, 99, rfl⟩
abbrev main_v11 : Ref sig .tc := ⟨.hbm, 100, rfl⟩
abbrev main_v12 : Ref sig .tc := ⟨.hbm, 101, rfl⟩
abbrev main_v13 : Ref sig .tc := ⟨.hbm, 102, rfl⟩
abbrev main_v14 : Ref sig .tc := ⟨.hbm, 103, rfl⟩
abbrev main_v15 : Ref sig .tc := ⟨.hbm, 104, rfl⟩
abbrev main_cst_8 : Ref sig .tc := ⟨.hbm, 105, rfl⟩
abbrev main_v16 : Ref sig .tc := ⟨.hbm, 106, rfl⟩
abbrev main_v17 : Ref sig .tc := ⟨.hbm, 107, rfl⟩
abbrev main_v18 : Ref sig .tc := ⟨.hbm, 108, rfl⟩
abbrev main_v19 : Ref sig .tc := ⟨.hbm, 109, rfl⟩
abbrev main_v20 : Ref sig .tc := ⟨.hbm, 110, rfl⟩
abbrev main_c_9 : Ref sig .tc := ⟨.hbm, 111, rfl⟩
abbrev main_v21 : Ref sig .tc := ⟨.hbm, 112, rfl⟩
abbrev main_v22 : Ref sig .tc := ⟨.hbm, 113, rfl⟩
abbrev main_c_10 : Ref sig .tc := ⟨.hbm, 114, rfl⟩
abbrev main_v23 : Ref sig .tc := ⟨.hbm, 115, rfl⟩
abbrev main_v24 : Ref sig .tc := ⟨.hbm, 116, rfl⟩
abbrev main_v25 : Ref sig .tc := ⟨.hbm, 117, rfl⟩
abbrev main_cst_11 : Ref sig .tc := ⟨.hbm, 118, rfl⟩
abbrev main_v26 : Ref sig .tc := ⟨.hbm, 119, rfl⟩
abbrev main_v27 : Ref sig .tc := ⟨.hbm, 120, rfl⟩
abbrev main_v28 : Ref sig .tc := ⟨.hbm, 121, rfl⟩
abbrev main_cst_12 : Ref sig .tc := ⟨.hbm, 122, rfl⟩
abbrev main_v29 : Ref sig .tc := ⟨.hbm, 123, rfl⟩
abbrev main_v30 : Ref sig .tc := ⟨.hbm, 124, rfl⟩
abbrev main_v31 : Ref sig .tc := ⟨.hbm, 125, rfl⟩
abbrev main_v32 : Ref sig .tc := ⟨.hbm, 126, rfl⟩
abbrev main_v33 : Ref sig .tc := ⟨.hbm, 127, rfl⟩
abbrev main_v34 : Ref sig .tc := ⟨.hbm, 128, rfl⟩
abbrev main_v35 : Ref sig .tc := ⟨.hbm, 129, rfl⟩
abbrev main_cst_13 : Ref sig .tc := ⟨.hbm, 130, rfl⟩
abbrev main_v36 : Ref sig .tc := ⟨.hbm, 131, rfl⟩
abbrev main_v37 : Ref sig .tc := ⟨.hbm, 132, rfl⟩
abbrev main_v38 : Ref sig .tc := ⟨.hbm, 133, rfl⟩
abbrev main_cst_14 : Ref sig .tc := ⟨.hbm, 134, rfl⟩
abbrev main_v39 : Ref sig .tc := ⟨.hbm, 135, rfl⟩
abbrev main_v40 : Ref sig .tc := ⟨.hbm, 136, rfl⟩
abbrev main_v41 : Ref sig .tc := ⟨.hbm, 137, rfl⟩
abbrev main_v42 : Ref sig .tc := ⟨.hbm, 138, rfl⟩
abbrev main_values : Ref sig .tc := ⟨.hbm, 139, rfl⟩
abbrev main_indices : Ref sig .tc := ⟨.hbm, 140, rfl⟩
abbrev main_call5_v0 : Ref sig .tc := ⟨.hbm, 141, rfl⟩
abbrev main_v43 : Ref sig .tc := ⟨.hbm, 142, rfl⟩
abbrev main_cst_15 : Ref sig .tc := ⟨.hbm, 143, rfl⟩
abbrev main_v44 : Ref sig .tc := ⟨.hbm, 144, rfl⟩
abbrev main_cst_16 : Ref sig .tc := ⟨.hbm, 145, rfl⟩
abbrev main_v45 : Ref sig .tc := ⟨.hbm, 146, rfl⟩
abbrev main_v46 : Ref sig .tc := ⟨.hbm, 147, rfl⟩
abbrev main_v47 : Ref sig .tc := ⟨.hbm, 148, rfl⟩
abbrev main_v48 : Ref sig .tc := ⟨.hbm, 149, rfl⟩
abbrev main_cst_17 : Ref sig .tc := ⟨.hbm, 150, rfl⟩
abbrev main_v49 : Ref sig .tc := ⟨.hbm, 151, rfl⟩
abbrev main_cst_18 : Ref sig .tc := ⟨.hbm, 152, rfl⟩
abbrev main_v50 : Ref sig .tc := ⟨.hbm, 153, rfl⟩
abbrev main_v51 : Ref sig .tc := ⟨.hbm, 154, rfl⟩
abbrev main_v52 : Ref sig .tc := ⟨.hbm, 155, rfl⟩
abbrev main_v53 : Ref sig .tc := ⟨.hbm, 156, rfl⟩
abbrev main_call6_v0 : Ref sig .tc := ⟨.hbm, 157, rfl⟩
abbrev main_call6_cst : Ref sig .tc := ⟨.hbm, 158, rfl⟩
abbrev main_call6_v1 : Ref sig .tc := ⟨.hbm, 159, rfl⟩
abbrev main_v54 : Ref sig .tc := ⟨.hbm, 160, rfl⟩
abbrev main_cst_19 : Ref sig .tc := ⟨.hbm, 161, rfl⟩
abbrev main_v55 : Ref sig .tc := ⟨.hbm, 162, rfl⟩
abbrev main_v56 : Ref sig .tc := ⟨.hbm, 163, rfl⟩
abbrev main_cst_20 : Ref sig .tc := ⟨.hbm, 164, rfl⟩
abbrev main_v57 : Ref sig .tc := ⟨.hbm, 165, rfl⟩
abbrev main_v58 : Ref sig .tc := ⟨.hbm, 166, rfl⟩
abbrev main_cst_21 : Ref sig .tc := ⟨.hbm, 167, rfl⟩
abbrev main_v59 : Ref sig .tc := ⟨.hbm, 168, rfl⟩
abbrev main_cst_22 : Ref sig .tc := ⟨.hbm, 169, rfl⟩
abbrev main_v60 : Ref sig .tc := ⟨.hbm, 170, rfl⟩
abbrev main_cst_23 : Ref sig .tc := ⟨.hbm, 171, rfl⟩
abbrev main_v61 : Ref sig .tc := ⟨.hbm, 172, rfl⟩
abbrev main_cst_24 : Ref sig .tc := ⟨.hbm, 173, rfl⟩
abbrev main_v62 : Ref sig .tc := ⟨.hbm, 174, rfl⟩
abbrev main_cst_25 : Ref sig .tc := ⟨.hbm, 175, rfl⟩
abbrev main_v63 : Ref sig .tc := ⟨.hbm, 176, rfl⟩
abbrev main_v64 : Ref sig .tc := ⟨.hbm, 177, rfl⟩

abbrev nD : Nat := 1
abbrev τ : Topo := Topo.v7x

variable {F : FTy → Type} [FloatOps F]

abbrev main_while0_count : Scf.Loop 32 := ⟨0#32, 2048#32, 1#32⟩
-- ==== Proof.KernelIdeal.Model.lean ====
/- What the kernel's two nested loops carry, as plain recursions over the kernel's own arithmetic: nothing here
   speaks of memory. `inner` is one chunk's 64 frames; `outer` is the 32 chunks. -/
module

public import proofs.«01_k».proof.Proof.Gen.KernelIdeal.Launch
public import proofs.«01_k».proof.Proof.Gen.KernelIdeal.Loops
public import Idealize.ShloMosaic.Lib.VecWindow

@[expose] public section

noncomputable section

namespace Cert.Proof.KernelIdeal

open Cert.KernelIdeal Cert.KernelIdeal.Gen
open Idealize.ShloMosaic Idealize.ShloMosaic.TcCoe

variable {F : FTy → Type} [FloatOps F] [Named F]

/-- The column numbers 0 … 63, as the kernel writes them. -/
abbrev cols : IVec S1x64 32 := iota .tc S1x64 32 [1] iota_S1x64_d1_w32
/-- The row numbers 0 … 63, as the kernel writes them. -/
abbrev rows : IVec S64x1 32 := iota .tc S64x1 32 [0] iota_S64x1_d0_w32

/-- What the inner loop carries: the frame's products with the prototypes, the chunk's products, and the squared norms. -/
abbrev Carried (F : FTy → Type) : Type := FVec F S1x64 .f32 × FVec F S64x64 .f32 × FVec F S1x64 .f32

/-- The kernel's test of a frame's flag: the flag is positive. -/
def hit (w : BitVec 32) : Prop := Scalar.cmpi .ne (Scalar.extui (Scalar.cmpi .sgt w 0#32) : BitVec 32) 0#32 = 1#1

instance (w : BitVec 32) : Decidable (hit w) := inferInstanceAs (Decidable (_ = _))

/-- One frame of a chunk `Z`: the carried values and the record of nearest prototypes, moved on when the flag `w` is positive. -/
def frameStep (w : BitVec 32) (Z : Vec F S64x2048 .f32) (k : Fin k0_t2_loop.trips) (s : Carried F × Vec F S64x64 .f32) :
    Carried F × Vec F S64x64 .f32 :=
  if hit w then
    ((k0_pay16 rows k s.1.2.1 (k0_pay3 cols s.1.1 s.1.2.2) (k0_pay6 rows cols (k0_pay10 Z) (Scf.iv 0#32 1#32 k) (Scalar.addi (Scf.iv 0#32 1#32 k) 1#32)),
      k0_pay17 s.1.2.1 (k0_pay3 cols s.1.1 s.1.2.2) (k0_pay5 cols (k0_pay10 Z) (Scf.iv 0#32 1#32 k)),
      k0_pay15 s.1.1 s.1.2.2 (k0_pay3 cols s.1.1 s.1.2.2) (k0_pay7 s.1.2.2) (k0_pay8 rows (k0_pay11 Z) (Scf.iv 0#32 1#32 k))),
     VecWindow.put s.2 (k0_off3 k) S1x64.size (k0_pay4 cols s.1.1 s.1.2.2))
  else ((k0_pay14 rows k s.1.2.1, s.1.2.1, s.1.2.2), s.2)

/-- The first `n` frames of a chunk. -/
def inner (w : Fin k0_t2_loop.trips → BitVec 32) (Z : Vec F S64x2048 .f32) (s : Carried F × Vec F S64x64 .f32) : ℕ → Carried F × Vec F S64x64 .f32
  | 0 => s
  | n + 1 => if h : n < k0_t2_loop.trips then frameStep (w ⟨n, h⟩) Z ⟨n, h⟩ (inner w Z s n) else inner w Z s n

theorem inner_succ (w : Fin k0_t2_loop.trips → BitVec 32) (Z : Vec F S64x2048 .f32) (s : Carried F × Vec F S64x64 .f32) (k : Fin k0_t2_loop.trips) :
    inner w Z s (k.val + 1) = frameStep (w k) Z k (inner w Z s k.val) := by
  rw [inner.eq_2]; exact dif_pos k.isLt

/-- Frame `t2` of chunk `t1`: its flag, read off the table. -/
def flagAt (g : Vec F S2048 .i32) (t1 : Fin k0_t1_loop.trips) (t2 : Fin k0_t2_loop.trips) : BitVec 32 :=
  VecWindow.window g (k0_off2 t1 t2) S1.size (k0_off2_inb t1 t2) (Shape.Idx.first (numel1_S1.symm ▸ Nat.one_pos))

/-- Chunk `t1` of the frames. -/
def chunkOf (z : Vec F S2048x2048 .f32) (t1 : Fin k0_t1_loop.trips) : Vec F S64x2048 .f32 :=
  VecWindow.window z (k0_off1 t1) S64x2048.size (k0_off1_inb t1)

/-- The end of chunk `t1`'s inner loop, from the squared norms `pn` and the prototypes `p` the chunk starts with. -/
def chunkEnd (g : Vec F S2048 .i32) (z : Vec F S2048x2048 .f32) (t1 : Fin k0_t1_loop.trips) (pn : FVec F S1x64 .f32) (p : Vec F S64x2048 .f32) :
    Carried F × Vec F S64x64 .f32 :=
  inner (flagAt g t1) (chunkOf z t1) ((k0_pay13 (chunkOf z t1) p, k0_pay9 (chunkOf z t1) p, pn), k0_pay12) k0_t2_loop.trips

/-- One chunk: the squared norms and the prototypes it leaves. -/
def chunkStep (g : Vec F S2048 .i32) (z : Vec F S2048x2048 .f32) (t1 : Fin k0_t1_loop.trips) (s : FVec F S1x64 .f32 × Vec F S64x2048 .f32) :
    FVec F S1x64 .f32 × Vec F S64x2048 .f32 :=
  ((chunkEnd g z t1 s.1 s.2).1.2.2,
   k0_pay34 (chunkOf z t1) s.2 (k0_pay19 k0_pay33 (chunkEnd g z t1 s.1 s.2).2) (k0_pay20 k0_pay30 (chunkEnd g z t1 s.1 s.2).2) (constant S64x2048 .f32 0x00000000#32))

/-- The first `n` chunks. -/
def outer (g : Vec F S2048 .i32) (z : Vec F S2048x2048 .f32) (s : FVec F S1x64 .f32 × Vec F S64x2048 .f32) : ℕ → FVec F S1x64 .f32 × Vec F S64x2048 .f32
  | 0 => s
  | n + 1 => if h : n < k0_t1_loop.trips then chunkStep g z ⟨n, h⟩ (outer g z s n) else outer g z s n

theorem outer_succ (g : Vec F S2048 .i32) (z : Vec F S2048x2048 .f32) (s : FVec F S1x64 .f32 × Vec F S64x2048 .f32) (k : Fin k0_t1_loop.trips) :
    outer g z s (k.val + 1) = chunkStep g z k (outer g z s k.val) := by
  rw [outer.eq_2]; exact dif_pos k.isLt

/-- One block of the loss loop: the two running sums, from the moved mean `nma`, its squared norm `man2` and the last prototypes `p`. -/
def lossStep (nma : FVec F S1x2048 .f32) (man2 : F .f32) (p : Vec F S64x2048 .f32) (z : Vec F S2048x2048 .f32) (t3 : Fin k0_t3_loop.trips) (s : F .f32 × F .f32) :
    F .f32 × F .f32 :=
  let zb : Vec F S256x2048 .f32 := VecWindow.window z (k0_off4 t3) S256x2048.size (k0_off4_inb t3)
  let pn := k0_pay44 k0_pay30 p
  let lanes : IVec S256x64 32 := iota .tc S256x64 32 [1] iota_S256x64_d1_w32
  (k0_pay28 (k0_pay43 p) lanes s.1 (k0_pay21 zb) (k0_pay22 p zb) (k0_pay25 p pn lanes zb) (k0_pay26 p pn lanes zb) (k0_pay27 p pn lanes zb) (Scalar.ofBits .f32 0x00000000#32),
   k0_pay1 s.2 (k0_pay29 nma man2 zb (k0_pay21 zb)))

/-- The first `n` blocks of the loss loop. -/
def loss (nma : FVec F S1x2048 .f32) (man2 : F .f32) (p : Vec F S64x2048 .f32) (z : Vec F S2048x2048 .f32) : ℕ → F .f32 × F .f32
  | 0 => (Scalar.ofBits .f32 0x00000000#32, Scalar.ofBits .f32 0x00000000#32)
  | n + 1 => if h : n < k0_t3_loop.trips then lossStep nma man2 p z ⟨n, h⟩ (loss nma man2 p z n) else loss nma man2 p z n

theorem loss_succ (nma : FVec F S1x2048 .f32) (man2 : F .f32) (p : Vec F S64x2048 .f32) (z : Vec F S2048x2048 .f32) (k : Fin k0_t3_loop.trips) :
    loss nma man2 p z (k.val + 1) = lossStep nma man2 p z k (loss nma man2 p z k.val) := by
  rw [loss.eq_2]; exact dif_pos k.isLt

/-- The kernel's one number: from the flags, the test of the mean, the frames, the anomaly row, the prototypes and the mean. -/
def kernelOut (g : Vec F S2048 .i32) (init : Vec F S1 .i32) (z : Vec F S2048x2048 .f32) (ga : Vec F S1x2048 .f32) (p0 : Vec F S64x2048 .f32) (ma : Vec F S1x2048 .f32) : F .f32 :=
  let p := (outer g z (k0_pay32 (k0_pay31 p0), k0_pay31 p0) k0_t1_loop.trips).2
  let w : BitVec 32 := init (Shape.Idx.first (numel1_S1.symm ▸ Nat.one_pos))
  let l := loss (k0_pay40 (k0_pay36 ga) (k0_pay37 ga z) ma w) (k0_pay41 (k0_pay36 ga) (k0_pay37 ga z) ma w) p z k0_t3_loop.trips
  k0_pay2 (k0_pay42 (k0_pay36 ga) w) l.1 l.2

end Cert.Proof.KernelIdeal

end
-- ==== Proof.KernelIdeal.Loops.lean ====
/- The kernel's two nested loops in memory: one frame, then one chunk, each leaving what `Model.lean` says. -/
module

public import proofs.«01_k».proof.Proof.KernelIdeal.Model

@[expose] public section

set_option maxRecDepth 8192
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄K" => MT nD τ sig Unit (Elt F) ℕ (UR sig nD τ) ℕ

/-- Before frame `k` of a chunk: the flags' table, the carried values, and the record of nearest prototypes as the
    recursion `inner` has them. -/
abbrev frameInv (c : Dev nD) (arg1 : Memref sig .tc .smem S2048 .i32) (arg9 : Memref sig .tc .vmem S64x64 .f32)
    (q : PosShare TreeShare) (G : BufTy.Contents (Elt F) arg1.view.ty) (t1 : Fin k0_t1_loop.trips) (Z : Vec F S64x2048 .f32) (s : Carried F × Vec F S64x64 .f32)
    (k : ℕ) (acc : Carried F) : sProp 𝕄K :=
  iprop((arg1.view.loc (c : Thread nD τ) ↦[arg1.view.set]{q} G)
    ∗ ⌜acc = (inner (flagAt (arg1.view.read (Elt F) G) t1) Z s k).1⌝
    ∗ ∃ f9, ⌜arg9.view.read (Elt F) f9 = (inner (flagAt (arg1.view.read (Elt F) G) t1) Z s k).2⌝
      ∗ (arg9.view.loc (c : Thread nD τ) ↦[arg9.view.set]{fullShare} f9))

/-- One frame. -/
theorem frame_trip (c : Dev nD) (i : grid0.Coords) (arg1 : Memref sig .tc .smem S2048 .i32) (harg1 : arg1.IsWhole) (arg2 : Memref sig .tc .smem S1 .i32) (harg2 : arg2.IsWhole) (arg3 : Memref sig .tc .vmem S2048x2048 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S1x2048 .f32) (harg6 : arg6.IsWhole) (arg7 : Memref sig .tc .smem S1 .f32) (harg7 : arg7.IsWhole) (arg8 : Memref sig .tc .vmem S64x2048 .f32) (harg8 : arg8.IsWhole) (arg9 : Memref sig .tc .vmem S64x64 .f32) (harg9 : arg9.IsWhole)
    (v4 : IVec S64x64 1) (v21 : FVec F S64x64 .f32) (c0_i32 : BitVec 32) (c1_i32 : BitVec 32) (k0_t1 : Fin k0_t1_loop.trips) (arg11 : FVec F S1x64 .f32) (v83 : Vec F S64x2048 .f32)
    (q : PosShare TreeShare) (G : BufTy.Contents (Elt F) arg1.view.ty) (s : Carried F × Vec F S64x64 .f32)
    (k : Fin k0_t2_loop.trips) (acc : Carried F) :
    frameInv (F := F) c arg1 arg9 q G k0_t1 v83 s k.val acc
    ⊢ wp frame (wpE (defs₀ (F := F)) Variants.none (c : Thread nD τ) none) Set.univ
        (k0_t2_body (F := F) i arg1 harg1 arg2 harg2 arg3 harg3 arg4 harg4 arg5 harg5 arg6 harg6 arg7 harg7 arg8 harg8 arg9 harg9 cols rows v4 cols v21 c0_i32 c1_i32 k0_t1 arg11 v83 k acc)
        (frameInv (F := F) c arg1 arg9 q G k0_t1 v83 s (k.val + 1)) := by
  obtain ⟨a1, a2, a3⟩ := acc
  unfold k0_t2_body
  iintro ⟨HG, %hacc, %f9, %hf9, H9⟩
  have e : inner (flagAt (arg1.view.read (Elt F) G) k0_t1) v83 s k.val = ((a1, a2, a3), arg9.view.read (Elt F) f9) :=
    Prod.ext hacc.symm hf9.symm
  sl_exec
  by_cases hw : frame_trip.sl.v137 (F := F) arg1 k0_t1 G k = 1#1
  · have hw' : hit (flagAt (arg1.view.read (Elt F) G) k0_t1 k) := hw
    rw [if_pos hw]
    sl_exec
    sl_step
    unfold frameInv
    rw [inner_succ, e, frameStep, if_pos hw']
    isplitl [HG]; · iexact HG
    isplitr; · ipureintro; rfl
    iexists _
    isplitr
    · ipureintro
      exact View.read_writes_cons_put arg9.view f9 (k0_off3_inb k) _ [] rfl
    · iexact H9
  · have hw' : ¬ hit (flagAt (arg1.view.read (Elt F) G) k0_t1 k) := hw
    rw [if_neg hw]
    sl_exec
    sl_step
    unfold frameInv
    rw [inner_succ, e, frameStep, if_neg hw']
    isplitl [HG]; · iexact HG
    isplitr; · ipureintro; rfl
    iexists _
    isplitr
    · ipureintro; rfl
    · iexact H9

/-- Before chunk `k`: the flags' table, the frames, the squared norms and the prototypes as the recursion `outer` has
    them; the record of nearest prototypes at anything. -/
abbrev chunkInv (c : Dev nD) (arg1 : Memref sig .tc .smem S2048 .i32) (arg3 : Memref sig .tc .vmem S2048x2048 .f32)
    (arg8 : Memref sig .tc .vmem S64x2048 .f32) (arg9 : Memref sig .tc .vmem S64x64 .f32)
    (q : PosShare TreeShare) (G : BufTy.Contents (Elt F) arg1.view.ty) (X3 : BufTy.Contents (Elt F) arg3.view.ty)
    (s : FVec F S1x64 .f32 × Vec F S64x2048 .f32)
    (k : ℕ) (acc : FVec F S1x64 .f32) : sProp 𝕄K :=
  iprop((arg1.view.loc (c : Thread nD τ) ↦[arg1.view.set]{q} G)
    ∗ (arg3.view.loc (c : Thread nD τ) ↦[arg3.view.set]{fullShare} X3)
    ∗ ⌜acc = (outer (arg1.view.read (Elt F) G) (arg3.view.read (Elt F) X3) s k).1⌝
    ∗ (∃ f8, ⌜arg8.view.read (Elt F) f8 = (outer (arg1.view.read (Elt F) G) (arg3.view.read (Elt F) X3) s k).2⌝
      ∗ (arg8.view.loc (c : Thread nD τ) ↦[arg8.view.set]{fullShare} f8))
    ∗ ∃ f9, (arg9.view.loc (c : Thread nD τ) ↦[arg9.view.set]{fullShare} f9))

/-- One chunk. -/
theorem chunk_trip (c : Dev nD) (i : grid0.Coords) (arg1 : Memref sig .tc .smem S2048 .i32) (harg1 : arg1.IsWhole) (arg2 : Memref sig .tc .smem S1 .i32) (harg2 : arg2.IsWhole) (arg3 : Memref sig .tc .vmem S2048x2048 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S1x2048 .f32) (harg6 : arg6.IsWhole) (arg7 : Memref sig .tc .smem S1 .f32) (harg7 : arg7.IsWhole) (arg8 : Memref sig .tc .vmem S64x2048 .f32) (harg8 : arg8.IsWhole) (arg9 : Memref sig .tc .vmem S64x64 .f32) (harg9 : arg9.IsWhole)
    (q : PosShare TreeShare) (G : BufTy.Contents (Elt F) arg1.view.ty) (X3 : BufTy.Contents (Elt F) arg3.view.ty)
    (s : FVec F S1x64 .f32 × Vec F S64x2048 .f32) (k : Fin k0_t1_loop.trips) (acc : FVec F S1x64 .f32) :
    chunkInv (F := F) c arg1 arg3 arg8 arg9 q G X3 s k.val acc
    ⊢ wp frame (wpE (defs₀ (F := F)) Variants.none (c : Thread nD τ) none) Set.univ
        (k0_t1_body (F := F) i arg1 harg1 arg2 harg2 arg3 harg3 arg4 harg4 arg5 harg5 arg6 harg6 arg7 harg7 arg8 harg8 arg9 harg9 cols rows cols k acc)
        (chunkInv (F := F) c arg1 arg3 arg8 arg9 q G X3 s (k.val + 1)) := by
  unfold k0_t1_body
  iintro ⟨HG, H3, %hacc, ⟨%f8, %hf8, H8⟩, %f9, H9⟩
  sl_exec
  sl_for (frameInv (F := F) c arg1 arg9 q G k (chunkOf (arg3.view.read (Elt F) X3) k)
    ((k0_pay13 (chunkOf (arg3.view.read (Elt F) X3) k) (arg8.view.read (Elt F) f8),
      k0_pay9 (chunkOf (arg3.view.read (Elt F) X3) k) (arg8.view.read (Elt F) f8), acc), k0_pay12)) $$ [HG H9]
  · intro k2 acc2
    exact frame_trip c i arg1 harg1 arg2 harg2 arg3 harg3 arg4 harg4 arg5 harg5 arg6 harg6 arg7 harg7 arg8 harg8 arg9 harg9 _ _ _ _ k acc _ q G _ k2 acc2
  · unfold frameInv
    isplitl [HG]; · iexact HG
    isplitr
    · ipureintro
      rw [View.readAt_full arg8.view f8 inb_S64x2048_S64x2048_0_0]
      rfl
    iexists arg9.view.writes (Elt F) arg9.view.junk [⟨Rect.unit ![0, 0] S64x64.size inb_S64x64_S64x64_0_0, k0_pay12⟩]
    isplitr
    · ipureintro
      exact View.read_writes_full arg9.view _ inb_S64x64_S64x64_0_0 _ []
    · iexact H9
  · iintro %acc2 ⟨HG, %hacc2, %f9, %hf9, H9⟩
    sl_exec
    sl_step
    unfold chunkInv
    have e : outer (arg1.view.read (Elt F) G) (arg3.view.read (Elt F) X3) s k.val = (acc, arg8.view.read (Elt F) f8) :=
      Prod.ext hacc.symm hf8.symm
    have e2 : chunkEnd (arg1.view.read (Elt F) G) (arg3.view.read (Elt F) X3) k acc (arg8.view.read (Elt F) f8) = (acc2, arg9.view.read (Elt F) f9) :=
      Prod.ext hacc2.symm hf9.symm
    have e3 : chunk_trip.sl.r_1 (F := F) arg8 f8 = arg8.view.read (Elt F) f8 := View.readAt_full arg8.view f8 inb_S64x2048_S64x2048_0_0
    have e4 : chunk_trip.sl.r_3 (F := F) arg9 f9 = k0_pay19 k0_pay33 (arg9.view.read (Elt F) f9) :=
      congrArg (k0_pay19 k0_pay33) (View.readAt_full arg9.view f9 inb_S64x64_S64x64_0_0)
    have e5 : chunk_trip.sl.r_4 (F := F) arg9 f9 = k0_pay20 k0_pay30 (arg9.view.read (Elt F) f9) :=
      congrArg (k0_pay20 k0_pay30) (View.readAt_full arg9.view f9 inb_S64x64_S64x64_0_0)
    rw [outer_succ, e, e3, e4, e5, chunkStep, e2]
    isplitl [HG]; · iexact HG
    isplitl [H3]; · iexact H3
    isplitr; · ipureintro; rfl
    isplitl [H8]
    · iexists _
      isplitr
      · ipureintro
        exact View.read_writes_full arg8.view f8 inb_S64x2048_S64x2048_0_0 _ []
      · iexact H8
    · iexists _
      iexact H9

end Cert.Proof.KernelIdeal

end
-- ==== Proof.KernelIdeal.Body.lean ====
/- The whole kernel body in memory: from its windows, its tables and its two scratch buffers to the one number it stores. -/
module

public import proofs.«01_k».proof.Proof.KernelIdeal.Loops

@[expose] public section

set_option maxRecDepth 8192
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄K" => MT nD τ sig Unit (Elt F) ℕ (UR sig nD τ) ℕ

/-- The loss loop's recursion, as the run finds it, is `loss`. -/
theorem loss_eq (c : Dev nD) (i : grid0.Coords) (arg1 : Memref sig .tc .smem S2048 .i32) (harg1 : arg1.IsWhole) (arg2 : Memref sig .tc .smem S1 .i32) (harg2 : arg2.IsWhole) (arg3 : Memref sig .tc .vmem S2048x2048 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S1x2048 .f32) (harg6 : arg6.IsWhole) (arg7 : Memref sig .tc .smem S1 .f32) (harg7 : arg7.IsWhole) (arg8 : Memref sig .tc .vmem S64x2048 .f32) (harg8 : arg8.IsWhole) (arg9 : Memref sig .tc .vmem S64x64 .f32) (harg9 : arg9.IsWhole)
    (nma : FVec F S1x2048 .f32) (man2 : F .f32) (p : Vec F S64x2048 .f32) (X3 : BufTy.Contents (Elt F) arg3.view.ty) :
    ∀ n, n ≤ k0_t3_loop.trips → st_k0_t3 (F := F) Variants.none c none i arg1 harg1 arg2 harg2 arg3 harg3 arg4 harg4 arg5 harg5 arg6 harg6 arg7 harg7 arg8 harg8 arg9 harg9
        nma man2 p (k0_pay43 p) (k0_pay44 k0_pay30 p) (iota .tc S256x64 32 [1] iota_S256x64_d1_w32) 0#32 X3
        (Scalar.ofBits .f32 0x00000000#32, Scalar.ofBits .f32 0x00000000#32) n
      = loss nma man2 p (arg3.view.read (Elt F) X3) n
  | 0, _ => rfl
  | n + 1, h => by
    rw [st_k0_t3_succ (F := F) Variants.none c none i arg1 harg1 arg2 harg2 arg3 harg3 arg4 harg4 arg5 harg5 arg6 harg6 arg7 harg7 arg8 harg8 arg9 harg9 _ _ _ _ _ _ _ _ _ ⟨n, h⟩,
      loss_succ nma man2 p _ ⟨n, h⟩, loss_eq c i arg1 harg1 arg2 harg2 arg3 harg3 arg4 harg4 arg5 harg5 arg6 harg6 arg7 harg7 arg8 harg8 arg9 harg9 nma man2 p X3 n (Nat.le_of_lt h)]
    unfold tripR_k0_t3 trip_k0_t3
    rfl

/-- The body reads its windows and its tables, leaves them as they were, and stores `kernelOut`. -/
theorem body_run (c : Dev nD) (i : grid0.Coords) (arg1 : Memref sig .tc .smem S2048 .i32) (harg1 : arg1.IsWhole) (arg2 : Memref sig .tc .smem S1 .i32) (harg2 : arg2.IsWhole) (arg3 : Memref sig .tc .vmem S2048x2048 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S1x2048 .f32) (harg6 : arg6.IsWhole) (arg7 : Memref sig .tc .smem S1 .f32) (harg7 : arg7.IsWhole) (arg8 : Memref sig .tc .vmem S64x2048 .f32) (harg8 : arg8.IsWhole) (arg9 : Memref sig .tc .vmem S64x64 .f32) (harg9 : arg9.IsWhole)
    (q : PosShare TreeShare) (G : BufTy.Contents (Elt F) arg1.view.ty) (I : BufTy.Contents (Elt F) arg2.view.ty)
    (X3 : BufTy.Contents (Elt F) arg3.view.ty) (X4 : BufTy.Contents (Elt F) arg4.view.ty) (X5 : BufTy.Contents (Elt F) arg5.view.ty)
    (X6 : BufTy.Contents (Elt F) arg6.view.ty) (f7 : BufTy.Contents (Elt F) arg7.view.ty) (f8 : BufTy.Contents (Elt F) arg8.view.ty) (f9 : BufTy.Contents (Elt F) arg9.view.ty) :
    (iprop((arg1.view.loc (c : Thread nD τ) ↦[arg1.view.set]{q} G) ∗ (arg2.view.loc (c : Thread nD τ) ↦[arg2.view.set]{q} I)
      ∗ (arg3.view.loc (c : Thread nD τ) ↦[arg3.view.set]{fullShare} X3) ∗ (arg4.view.loc (c : Thread nD τ) ↦[arg4.view.set]{fullShare} X4)
      ∗ (arg5.view.loc (c : Thread nD τ) ↦[arg5.view.set]{fullShare} X5) ∗ (arg6.view.loc (c : Thread nD τ) ↦[arg6.view.set]{fullShare} X6)
      ∗ (arg7.view.loc (c : Thread nD τ) ↦[arg7.view.set]{fullShare} f7) ∗ (arg8.view.loc (c : Thread nD τ) ↦[arg8.view.set]{fullShare} f8)
      ∗ (arg9.view.loc (c : Thread nD τ) ↦[arg9.view.set]{fullShare} f9)) : sProp 𝕄K)
    ⊢ wp frame (wpE (defs₀ (F := F)) Variants.none (c : Thread nD τ) none) Set.univ
        (cc0__vault_kernel_skel (F := F) i arg1 harg1 arg2 harg2 arg3 harg3 arg4 harg4 arg5 harg5 arg6 harg6 arg7 harg7 arg8 harg8 arg9 harg9)
        (fun _ => iprop((arg1.view.loc (c : Thread nD τ) ↦[arg1.view.set]{q} G) ∗ (arg2.view.loc (c : Thread nD τ) ↦[arg2.view.set]{q} I)
          ∗ (arg3.view.loc (c : Thread nD τ) ↦[arg3.view.set]{fullShare} X3) ∗ (arg4.view.loc (c : Thread nD τ) ↦[arg4.view.set]{fullShare} X4)
          ∗ (arg5.view.loc (c : Thread nD τ) ↦[arg5.view.set]{fullShare} X5) ∗ (arg6.view.loc (c : Thread nD τ) ↦[arg6.view.set]{fullShare} X6)
          ∗ (∃ g7, ⌜arg7.view.read (Elt F) g7 = fun _ => kernelOut (arg1.view.read (Elt F) G) (arg2.view.read (Elt F) I) (arg3.view.read (Elt F) X3) (arg4.view.read (Elt F) X4) (arg5.view.read (Elt F) X5) (arg6.view.read (Elt F) X6)⌝
            ∗ (arg7.view.loc (c : Thread nD τ) ↦[arg7.view.set]{fullShare} g7))
          ∗ (∃ g8, (arg8.view.loc (c : Thread nD τ) ↦[arg8.view.set]{fullShare} g8))
          ∗ (∃ g9, (arg9.view.loc (c : Thread nD τ) ↦[arg9.view.set]{fullShare} g9)))) := by
  unfold cc0__vault_kernel_skel
  iintro ⟨H1, H2, H3, H4, H5, H6, H7, H8, H9⟩
  sl_exec
  sl_for (chunkInv (F := F) c arg1 arg3 arg8 arg9 q G X3
    (k0_pay32 (k0_pay31 (arg5.view.read (Elt F) X5)), k0_pay31 (arg5.view.read (Elt F) X5))) $$ [H1 H3 H8 H9]
  · intro k acc
    exact chunk_trip c i arg1 harg1 arg2 harg2 arg3 harg3 arg4 harg4 arg5 harg5 arg6 harg6 arg7 harg7 arg8 harg8 arg9 harg9 q G X3 _ k acc
  · unfold chunkInv
    isplitl [H1]; · iexact H1
    isplitl [H3]; · iexact H3
    have e5 := View.readAt_full (Val := Elt F) arg5.view X5 inb_S64x2048_S64x2048_0_0
    have e8 : arg8.view.read (Elt F) (arg8.view.writes (Elt F) arg8.view.junk (body_run.sl.H8_1 (F := F) arg5 X5)) = k0_pay31 (arg5.view.read (Elt F) X5) :=
      (View.read_writes_full arg8.view _ inb_S64x2048_S64x2048_0_0 _ []).trans (congrArg k0_pay31 e5)
    isplitr
    · ipureintro
      exact congrArg k0_pay32 ((View.readAt_full arg8.view _ inb_S64x2048_S64x2048_0_0).trans e8)
    isplitl [H8]
    · iexists _
      isplitr
      · ipureintro; exact e8
      · iexact H8
    · iexists _
      iexact H9
  · iintro %acc ⟨H1, H3, %hacc, ⟨%f8', %hf8, H8⟩, %f9', H9⟩
    sl_exec
    sl_step
    have e4 := View.readAt_full (Val := Elt F) arg4.view X4 inb_S1x2048_S1x2048_0_0
    have e3 := View.readAt_full (Val := Elt F) arg3.view X3 inb_S2048x2048_S2048x2048_0_0
    have e6 := View.readAt_full (Val := Elt F) arg6.view X6 inb_S1x2048_S1x2048_0_0
    have e2 := View.readAt_full (Val := Elt F) arg2.view I inb_S1_S1_0
    have e8 := View.readAt_full (Val := Elt F) arg8.view f8' inb_S64x2048_S64x2048_0_0
    have h6 : body_run.sl.r_6 (F := F) arg8 f8' = arg8.view.read (Elt F) f8' := e8
    have h7 : body_run.sl.r_7 (F := F) arg8 f8' = k0_pay43 (arg8.view.read (Elt F) f8') := congrArg k0_pay43 e8
    have h8 : body_run.sl.r_8 (F := F) arg8 f8' = k0_pay44 k0_pay30 (arg8.view.read (Elt F) f8') := congrArg (k0_pay44 k0_pay30) e8
    have h3 : body_run.sl.r_3 (F := F) arg2 arg3 arg4 arg6 I X3 X4 X6
        = k0_pay40 (k0_pay36 (arg4.view.read (Elt F) X4)) (k0_pay37 (arg4.view.read (Elt F) X4) (arg3.view.read (Elt F) X3)) (arg6.view.read (Elt F) X6)
            (arg2.view.read (Elt F) I (Shape.Idx.first (numel1_S1.symm ▸ Nat.one_pos))) := by
      rw [← e4, ← e3, ← e6, ← e2]; rfl
    have h4 : body_run.sl.r_4 (F := F) arg2 arg3 arg4 arg6 I X3 X4 X6
        = k0_pay41 (k0_pay36 (arg4.view.read (Elt F) X4)) (k0_pay37 (arg4.view.read (Elt F) X4) (arg3.view.read (Elt F) X3)) (arg6.view.read (Elt F) X6)
            (arg2.view.read (Elt F) I (Shape.Idx.first (numel1_S1.symm ▸ Nat.one_pos))) := by
      rw [← e4, ← e3, ← e6, ← e2]; rfl
    have h5 : body_run.sl.r_5 (F := F) arg2 arg4 I X4
        = k0_pay42 (k0_pay36 (arg4.view.read (Elt F) X4)) (arg2.view.read (Elt F) I (Shape.Idx.first (numel1_S1.symm ▸ Nat.one_pos))) := by
      rw [← e4, ← e2]; rfl
    have hst := loss_eq c i arg1 harg1 arg2 harg2 arg3 harg3 arg4 harg4 arg5 harg5 arg6 harg6 arg7 harg7 arg8 harg8 arg9 harg9
      (body_run.sl.r_3 (F := F) arg2 arg3 arg4 arg6 I X3 X4 X6) (body_run.sl.r_4 (F := F) arg2 arg3 arg4 arg6 I X3 X4 X6) (arg8.view.read (Elt F) f8') X3
      k0_t3_loop.trips le_rfl
    isplitl [H1]; · iexact H1
    isplitl [H2]; · iexact H2
    isplitl [H3]; · iexact H3
    isplitl [H4]; · iexact H4
    isplitl [H5]; · iexact H5
    isplitl [H6]; · iexact H6
    isplitl [H7]
    · iexists _
      isplitr
      swap
      · iexact H7
      · ipureintro
        refine (View.read_writes_full arg7.view f7 inb_S1_S1_0 _ []).trans ?_
        rw [h6, h7, h8]
        refine funext fun _ => ?_
        refine (congrArg (fun l : F .f32 × F .f32 => k0_pay2 (body_run.sl.r_5 (F := F) arg2 arg4 I X4) l.1 l.2) hst).trans ?_
        rw [h3, h4, h5, hf8]
        rfl
    isplitl [H8]
    · iexists _
      iexact H8
    · iexists _
      iexact H9

end Cert.Proof.KernelIdeal

end
-- ==== Proof.KernelIdeal.Run.lean ====
/- The launch: the host lines before the region, the one point of the region at `body_run`, the trailing reshape; what the run leaves in the result and in the arguments. -/
module

public import proofs.«01_k».proof.Proof.KernelIdeal.Body
public import proofs.«01_k».proof.Proof.Gen.KernelIdeal.Launch
public import Idealize.ShloMosaic.Lib.Pipeline.FrameSuffix
public import Idealize.ShloMosaic.Lib.Pipeline.Value

@[expose] public section

set_option maxRecDepth 8192
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄K" => MT nD τ sig Unit (Elt F) ℕ (UR sig nD τ) ℕ

variable (m : (b : Loc nD τ sig) → Buf (Elt F) b) (ρ : Dev nD → PrngReg)

/-- The buffers' contents when the region is entered, after the host lines. -/
abbrev V0 (c : Dev nD) : Valuation τ sig (Elt F) := StableHlo.after (List.flatten [hostOps0]) (fun b => m (c, b))
/-- The same, by the core's own references. -/
abbrev V (c : Dev nD) (b : Ref sig .tc) : Buf (Elt F) ((c : Thread nD τ).loc b) := V0 m c (Proc.devRef .tc b)

/-- No host line before the region makes a fresh buffer. -/
theorem hostOps0_fresh : (hostOps0 (F := F)).Forall fun op => op.fresh = ∅ := StableHlo.forall_fresh_of_map rfl
/-- Nor does the one after it. -/
theorem hostOps1_fresh : (hostOps1 (F := F)).Forall fun op => op.fresh = ∅ := StableHlo.forall_fresh_of_map rfl
/-- The host lines before the region write the scratch values they define. -/
theorem hostOps0_writes : (hostOps0 (F := F)).Forall fun op => op.writes ⊆ (([main_call0_v0, main_call0_v1, main_call0_c, main_call0_v2, main_call0_v3, main_call0_v4, main_call0_v5, main_call0_v6] : List (Ref sig .tc)).map (Proc.devRef (τ := τ) .tc)).toFinset :=
  StableHlo.forall_writes_sub_of_map rfl
/-- The one after it writes the result. -/
theorem hostOps1_writes : (hostOps1 (F := F)).Forall fun op => op.writes ⊆ (([main_v0] : List (Ref sig .tc)).map (Proc.devRef (τ := τ) .tc)).toFinset :=
  StableHlo.forall_writes_sub_of_map rfl

/-- The host function as the launch reads it: lines, region, lines. -/
theorem hmain (𝒱₀ : Variants) : Pipeline.HMainPK (Ix := Unit) (Name := ℕ) (U := UR sig nD τ) (Lvl := ℕ) (pcfgs (F := F)) (0 : Fin 1) defs₀ 𝒱₀ m main (fun c b => V m c b) (fun _ => Pipeline.chain ([hostOps1].map StableHlo.seq)) :=
  Pipeline.hmainP_around pcfgs 0 defs₀ 𝒱₀ m main [hostOps0] [hostOps1] hostOps0_sub hostOps0_fresh main_chain

theorem sfx_sub : ∀ ops ∈ ([hostOps1] : List (List (HloOp τ sig (Elt F)))), ∀ op ∈ ops, op.bufs ⊆ Pipeline.tailRefs sig pre0 spec0 := by
  intro ops hops op hop
  simp only [List.mem_cons, List.mem_nil_iff, _root_.or_false] at hops
  rcases hops with rfl
  refine Pipeline.sub_tailRefs pre0 spec0 op ((List.forall_iff_forall_mem.mp hostOps1_sub) op hop) ?_
  simp only [hostOps1, List.mem_cons, List.mem_nil_iff, _root_.or_false] at hop
  rcases hop with rfl
  intro j
  fin_cases j <;> simp only [StableHlo.reshape_bufs, Finset.mem_insert, Finset.mem_singleton, not_or] <;> and_intros <;> exact StableHlo.devRef_ne_of_ne (by decide)

theorem sfx_fresh : ∀ ops ∈ ([hostOps1] : List (List (HloOp τ sig (Elt F)))), ∀ op ∈ ops, op.fresh = ∅ := by
  intro ops hops op hop
  simp only [List.mem_cons, List.mem_nil_iff, _root_.or_false] at hops
  rcases hops with rfl
  exact (List.forall_iff_forall_mem.mp hostOps1_fresh) op hop

theorem sfx_keeps : ∀ ops ∈ ([hostOps1] : List (List (HloOp τ sig (Elt F)))), ∀ op ∈ ops, ∀ w, Proc.devRef .tc (Pipeline.arrRef spec0 w) ∉ op.writes := by
  intro ops hops op hop
  simp only [List.mem_cons, List.mem_nil_iff, _root_.or_false] at hops
  rcases hops with rfl
  intro w hb
  obtain ⟨y, hy, he⟩ := List.mem_map.mp (List.mem_toFinset.mp ((List.forall_iff_forall_mem.mp hostOps1_writes) op hop hb))
  exact (by decide +kernel : ∀ w, Pipeline.arrRef spec0 w ∉ ([main_v0] : List (Ref sig .tc))) w (Proc.devRef_injective _ he ▸ hy)

/-- The two tables' contents. -/
def tbl : pre0.Contents (Elt F) := fun j => V m (0 : Dev nD) (pre0.ref j)

theorem V_pre (c : Dev nD) (j : Fin pre0.K) : V m c (pre0.ref j) = tbl m j := by obtain rfl : c = 0 := Subsingleton.elim _ _; rfl

/-- The tables admit the pipeline: no index map reads one. -/
def adm : (pcfg0 (F := F)).Adm := ⟨tbl m, trivial⟩

/-- What the kernel stores, from the buffers at the region's entry. -/
def kout : F .f32 :=
  kernelOut (V m 0 main_arg1) (V m 0 main_call0_v1) (V m 0 main_arg0) (V m 0 main_call0_v5) (V m 0 main_arg2) (V m 0 main_call0_v6)

/-- Every window's contents after the body: the inputs as fetched, the output at `kout`. -/
def dats (_ : Fin 1) (c : Dev nD) : Dat τ (Elt F) Unit ℕ (UR sig nD τ) ℕ (cfg0 (adm m)) c where
  A w := V m c (Pipeline.arrRef spec0 w)
  after w _ := match w with
    | ⟨0, _⟩ => V m c main_arg0
    | ⟨1, _⟩ => V m c main_call0_v5
    | ⟨2, _⟩ => V m c main_arg2
    | ⟨3, _⟩ => V m c main_call0_v6
    | ⟨4, _⟩ => fun _ => kout m
  Φ _ := iprop(Pipeline.ΦA spec0 c ∗ Pipeline.ΦT pre0 (tbl m) c)
  q _ := fullShare
  owed _ := 0

theorem A_eq (c : Dev nD) (w : Fin 5) : (dats m 0 c).A w = V m c (Pipeline.arrRef spec0 w) := by
  dsimp only [dats]

theorem prefHeld_pair (c : Dev nD) (q : Fin 2 → PosShare TreeShare) (v : pre0.Contents (Elt F)) :
    (Pipeline.prefHeld pre0 c q v : sProp 𝕄K)
      = iprop((((c : Thread nD τ).loc main_arg1) ↦{q 0} (show Buf (Elt F) ((c : Thread nD τ).loc main_arg1) from v 0))
          ∗ (((c : Thread nD τ).loc main_call0_v1) ↦{q 1} (show Buf (Elt F) ((c : Thread nD τ).loc main_call0_v1) from v 1))) := by
  unfold Pipeline.prefHeld
  rw [show (Finset.univ : Finset (Fin 2)) = insert 0 {1} from by decide, bigSep_insert (by decide), bigSep_singleton]
  rfl

/-- Every window is fetched (or, the output, written back) at the one point. -/
theorem fetch_0 (a : (pcfg0 (F := F)).Adm) : ((cfg0 a).win 0).fetch t0_0 = true := rfl
theorem fetch_1 (a : (pcfg0 (F := F)).Adm) : ((cfg0 a).win 1).fetch t0_0 = true := rfl
theorem fetch_2 (a : (pcfg0 (F := F)).Adm) : ((cfg0 a).win 2).fetch t0_0 = true := rfl
theorem fetch_3 (a : (pcfg0 (F := F)).Adm) : ((cfg0 a).win 3).fetch t0_0 = true := rfl

/-- Window 0's buffer holds its whole array when the body runs. -/
theorem before_0 (c : Dev nD) (d) : (dats m 0 c).before 0 t0_0 d = V m c main_arg0 := by
  unfold Dat.before; rw [if_pos (fetch_0 _)]
  have hz : (fun a => ((cfg0 (adm m)).win 0).index t0_0 a * main_arg0.ty.shape.size a) = fun _ => 0 := funext fun a => by fin_cases a <;> rfl
  exact Memref.read_access_unit_zero (Elt F) main_arg0 hz (fun a => by rw [congrFun hz a]; simp) (V m c main_arg0)

/-- Window 1's buffer holds its whole array when the body runs. -/
theorem before_1 (c : Dev nD) (d) : (dats m 0 c).before 1 t0_0 d = V m c main_call0_v5 := by
  unfold Dat.before; rw [if_pos (fetch_1 _)]
  have hz : (fun a => ((cfg0 (adm m)).win 1).index t0_0 a * main_call0_v5.ty.shape.size a) = fun _ => 0 := funext fun a => by fin_cases a <;> rfl
  exact Memref.read_access_unit_zero (Elt F) main_call0_v5 hz (fun a => by rw [congrFun hz a]; simp) (V m c main_call0_v5)

/-- Window 2's buffer holds its whole array when the body runs. -/
theorem before_2 (c : Dev nD) (d) : (dats m 0 c).before 2 t0_0 d = V m c main_arg2 := by
  unfold Dat.before; rw [if_pos (fetch_2 _)]
  have hz : (fun a => ((cfg0 (adm m)).win 2).index t0_0 a * main_arg2.ty.shape.size a) = fun _ => 0 := funext fun a => by fin_cases a <;> rfl
  exact Memref.read_access_unit_zero (Elt F) main_arg2 hz (fun a => by rw [congrFun hz a]; simp) (V m c main_arg2)

/-- Window 3's buffer holds its whole array when the body runs. -/
theorem before_3 (c : Dev nD) (d) : (dats m 0 c).before 3 t0_0 d = V m c main_call0_v6 := by
  unfold Dat.before; rw [if_pos (fetch_3 _)]
  have hz : (fun a => ((cfg0 (adm m)).win 3).index t0_0 a * main_call0_v6.ty.shape.size a) = fun _ => 0 := funext fun a => by fin_cases a <;> rfl
  exact Memref.read_access_unit_zero (Elt F) main_call0_v6 hz (fun a => by rw [congrFun hz a]; simp) (V m c main_call0_v6)

/-- The body at the region's one point, its windows and tables as the launch hands them. -/
theorem body_obligation (c : Dev nD) : BodyObligation (dats m 0 c) (defs₀ (F := F)) Variants.none () Set.univ := fun t => by
  obtain rfl := fin_N0 t
  rw [bigSep_W0, bigSep_W0]
  rw [show (dats m 0 c).Φ t0_0.castSucc = iprop(Pipeline.ΦA spec0 c ∗ Pipeline.ΦT pre0 (tbl m) c) from rfl,
    show (dats m 0 c).Φ t0_0.succ = iprop(Pipeline.ΦA spec0 c ∗ Pipeline.ΦT pre0 (tbl m) c) from rfl]
  unfold Pipeline.ΦA Pipeline.ΦT Dat.owesAt Pipeline.owesWithin
  rw [scopedRest0_eq, prefHeld_pair]
  rw [show (dats m 0 c).owed t0_0.castSucc = 0 from rfl, show (dats m 0 c).owed t0_0.succ = 0 from rfl]
  unfold owns
  iintro ⟨⟨⟨⟨⟨%g8, H8⟩, ⟨%g9, H9⟩⟩, HR⟩, ⟨H1, H2⟩⟩, ⟨%W, %hW, HO⟩, ⟨%d3, %f3, %hf3, H3⟩, ⟨%d4, %f4, %hf4, H4⟩, ⟨%d5, %f5, %hf5, H5⟩, ⟨%d6, %f6, %hf6, H6⟩, ⟨%d7, %f7, %hf7, H7⟩⟩
  have hf3 := hf3.trans (before_0 m c _)
  have hf4 := hf4.trans (before_1 m c _)
  have hf5 := hf5.trans (before_2 m c _)
  have hf6 := hf6.trans (before_3 m c _)
  have run := body_run (F := F) c (grid0.coords t0_0) (Memref.whole main_arg1) (Memref.isWhole_whole _) (Memref.whole main_call0_v1) (Memref.isWhole_whole _)
    (stage0_0 (((cfg0 (adm m)).slots t0_0 0).cast nbuf0_0)) (hstage0_0 _)
    (stage0_1 (((cfg0 (adm m)).slots t0_0 1).cast nbuf0_1)) (hstage0_1 _)
    (stage0_2 (((cfg0 (adm m)).slots t0_0 2).cast nbuf0_2)) (hstage0_2 _)
    (stage0_3 (((cfg0 (adm m)).slots t0_0 3).cast nbuf0_3)) (hstage0_3 _)
    (stage0_4 (((cfg0 (adm m)).slots t0_0 4).cast nbuf0_4)) (hstage0_4 _) (Memref.whole cc0_scratch0) (Memref.isWhole_whole _) (Memref.whole cc0_scratch1) (Memref.isWhole_whole _)
    fullShare.right (tbl m 0) (tbl m 1) f3 f4 f5 f6 f7 g8 g9
  simp only [Memref.view_whole, View.set_whole] at run
  rw [show defs₀ (F := F) .tc (cfg0 (adm m)).body ((cfg0 (adm m)).bodyArgs t0_0 ((cfg0 (adm m)).slots t0_0)) = cc0__vault_kernel_skel (F := F) (grid0.coords t0_0) (Memref.whole main_arg1) (Memref.isWhole_whole _) (Memref.whole main_call0_v1) (Memref.isWhole_whole _)
    (stage0_0 (((cfg0 (adm m)).slots t0_0 0).cast nbuf0_0)) (hstage0_0 _)
    (stage0_1 (((cfg0 (adm m)).slots t0_0 1).cast nbuf0_1)) (hstage0_1 _)
    (stage0_2 (((cfg0 (adm m)).slots t0_0 2).cast nbuf0_2)) (hstage0_2 _)
    (stage0_3 (((cfg0 (adm m)).slots t0_0 3).cast nbuf0_3)) (hstage0_3 _)
    (stage0_4 (((cfg0 (adm m)).slots t0_0 4).cast nbuf0_4)) (hstage0_4 _) (Memref.whole cc0_scratch0) (Memref.isWhole_whole _) (Memref.whole cc0_scratch1) (Memref.isWhole_whole _) from rfl]
  iapply wp_wand_r
  isplitl [H1 H2 H3 H4 H5 H6 H7 H8 H9]
  · iapply run
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iintro %_ ⟨H1, H2, H3, H4, H5, H6, ⟨%g7, %hg7, H7⟩, H8, H9⟩
  isplitl [H8 H9 HR H1 H2]
  · isplitl [H8 H9 HR]
    · isplitl [H8 H9]
      · isplitl [H8]
        · iexact H8
        iexact H9
      iexact HR
    isplitl [H1]; · iexact H1
    iexact H2
  isplitl [HO]
  · iexists W; isplitr; · ipureintro; exact fun _ _ => Or.inl trivial
    iexact HO
  isplitl [H3]; · iexists _; isplitr; swap; (· iexact H3); ipureintro; exact hf3
  isplitl [H4]; · iexists _; isplitr; swap; (· iexact H4); ipureintro; exact hf4
  isplitl [H5]; · iexists _; isplitr; swap; (· iexact H5); ipureintro; exact hf5
  isplitl [H6]; · iexists _; isplitr; swap; (· iexact H6); ipureintro; exact hf6
  iexists _; isplitr; swap; (· iexact H7); ipureintro
  refine hg7.trans (funext fun _ => ?_)
  obtain rfl : c = 0 := Subsingleton.elim _ _
  show kernelOut _ _ _ _ _ _ = kout m
  unfold kout
  rw [← hf3, ← hf4, ← hf5, ← hf6]
  rfl

/-- The output window's array ends at `kout`. -/
theorem final_out (c : Dev nD) : (dats m 0 c).arrAt 4 (cfg0 (adm m)).N = (fun _ => kout m : Vec F S1 .f32) :=
  (dats m 0 c).arrAt_eq_of_cover 4 (fun _ => kout m : Vec F S1 .f32) (fun t _ => by obtain rfl := fin_N0 t; rfl) fun i =>
    ⟨t0_0, rfl, by
      have hz : (fun a => ((cfg0 (adm m)).win 4).index t0_0 a * main_call0_v7.ty.shape.size a) = fun _ => 0 := funext fun a => by fin_cases a; rfl
      exact (Finset.ext_iff.mp (View.set_slice_whole main_call0_v7 (((cfg0 (adm m)).win 4).rect t0_0)) i).mpr
        (View.mem_set_unit_zero hz (fun a => by rw [congrFun hz a]; simp) i)⟩

/-- The host lines before the region leave an argument as it was. -/
theorem V_arg (c : Dev nD) (b : Ref sig .tc) (hb : b ∉ ([main_call0_v0, main_call0_v1, main_call0_c, main_call0_v2, main_call0_v3, main_call0_v4, main_call0_v5, main_call0_v6] : List (Ref sig .tc))) :
    V m c b = m ((c : Thread nD τ).loc b) :=
  StableHlo.after_of_writes_sub (r := b) _ _ hostOps0_writes hb

/-- A buffer that is no window's array and not the result ends as the region found it. -/
theorem tail_arg (c : Dev nD) (b : Ref sig .tc) (hw : ∀ w, Pipeline.arrRef spec0 w ≠ b) (hb : b ∉ ([main_v0] : List (Ref sig .tc))) :
    Pipeline.afterTail pcfgs (fun _ => adm m) (dats m) (0 : Fin 1) (V0 m) [hostOps1] c b = V m c b := by
  unfold Pipeline.afterTail
  exact (StableHlo.after_of_writes_sub (r := b) _ _ hostOps1_writes hb).trans (Pipeline.withArrays_of_ne spec0 c (V0 m c) _ b hw)

/-- The result ends at `kout`. -/
theorem tail_out (c : Dev nD) :
    Pipeline.afterTail pcfgs (fun _ => adm m) (dats m) (0 : Fin 1) (V0 m) [hostOps1] c main_v0 = (fun _ => kout m : Vec F S_ .f32) := by
  unfold Pipeline.afterTail
  have h := Pipeline.withArrays_arr spec0 (by decide) c (V0 m c) (fun w => (dats m 0 c).arrAt w (cfg0 (adm m)).N) 4
  have h' := h.trans (final_out m c)
  show StableHlo.after [_] _ _ = _
  rw [StableHlo.after_cons, StableHlo.after_nil]
  refine (StableHlo.reshape_result' ..).trans ?_
  funext i
  exact congrFun h' _

/-- The whole run: the result at `kout`, the arguments unchanged, the semaphores at zero. -/
theorem run_main : θ_run defs (onTc (τ := τ) (main (F := F))) ⟨m, fun _ => 0, ρ⟩ fun r =>
    (∀ c : Dev nD, r.2.mem ((c : Thread nD τ).loc main_v0) = (fun _ => kout m : Vec F S_ .f32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5))
    ∧ r.2.sem = fun _ => 0 := by
  refine Pipeline.θ_run_frameP_around_track pcfgs (fun _ => adm m) (dats m) (0 : Fin 1) launch0 defs₀ Variants.none m ρ main
    (hbody := fun c => (body_obligation m c).loose) (hshare := fun c w => by unfold Pipeline.Dat.share; dsimp only [dats]; split <;> rfl) (howed := fun _ _ => rfl) (V₀ := V0 m) (opss := [hostOps1])
    (hsub := sfx_sub) (hfresh := sfx_fresh) (hkeep := sfx_keeps) (hmain := hmain m Variants.none) (hA := A_eq m) (hpf := V_pre m)
    (hin := fun c => .rfl) (hout := fun c => ?_) (Q' := _) (hQ' := ?_)
  · show iprop(Pipeline.ΦA spec0 c ∗ Pipeline.ΦT pre0 (tbl m) c) ⊢ Pipeline.ΦA spec0 c
    iintro ⟨H, _⟩
    iexact H
  · rintro r ⟨h, hs⟩
    refine ⟨fun c => ⟨?_, ?_, ?_, ?_, ?_, ?_, ?_⟩, hs⟩
    · exact ((h c).2 main_v0 (Pipeline.mem_restRefs_of (win := spec0) _ rfl (by decide))).trans (tail_out m c)
    · exact (((h c).1 0).trans ((dats m 0 c).arrAt_in 0 rfl _)).trans (V_arg m c main_arg0 (by decide))
    · exact (((h c).2 main_arg1 (Pipeline.mem_restRefs_of (win := spec0) _ rfl (by decide))).trans (tail_arg m c _ (by decide) (by decide))).trans (V_arg m c _ (by decide))
    · exact (((h c).1 2).trans ((dats m 0 c).arrAt_in 2 rfl _)).trans (V_arg m c main_arg2 (by decide))
    · exact (((h c).2 main_arg3 (Pipeline.mem_restRefs_of (win := spec0) _ rfl (by decide))).trans (tail_arg m c _ (by decide) (by decide))).trans (V_arg m c _ (by decide))
    · exact (((h c).2 main_arg4 (Pipeline.mem_restRefs_of (win := spec0) _ rfl (by decide))).trans (tail_arg m c _ (by decide) (by decide))).trans (V_arg m c _ (by decide))
    · exact (((h c).2 main_arg5 (Pipeline.mem_restRefs_of (win := spec0) _ rfl (by decide))).trans (tail_arg m c _ (by decide) (by decide))).trans (V_arg m c _ (by decide))

end Cert.Proof.KernelIdeal

end
-- ==== Proof.ReferenceFrame.lean ====
/- The reference's run with its semaphores: it has none, so every counter is at zero at the end. -/
module

public import proofs.«01_k».proof.Proof.Gen.ReferenceIdeal.Run
public import Idealize.ShloMosaic.Lib.Quiescent

@[expose] public section

noncomputable section

namespace Cert.Proof.ReferenceIdeal

open Cert.ReferenceIdeal Cert.ReferenceIdeal.Gen
open Idealize.ShloMosaic Idealize.ShloMosaic.TcCoe
open Idealize.SL.Sem

variable {F : FTy → Type} [FloatOps F] [∀ e, Nonempty (Elt F e)]

/-- The reference leaves its arguments as they were, and it has no semaphore. -/
theorem frame (m : (ℓ : Loc nD τ sig) → Buf (Elt F) ℓ) (ρ : Dev nD → PrngReg) :
    θ_run (defs (F := F)) (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0 :=
  (θ_run defs _ _).mono (fun r h => ⟨fun c => (h c).2, sem_eq_zero_of_no_sems rfl r.2⟩) (Value.run m ρ)

end Cert.Proof.ReferenceIdeal

end
-- ==== Proof.Frames.lean ====
/- The claims that ask for no value: each program runs to the end and leaves its arguments, and the named constants are what their words round. -/
module

public import proofs.«01_k».proof.Defs
public import proofs.«01_k».proof.Proof.Gen.Pre_finite
public import proofs.«01_k».proof.Proof.Kernel.Run
public import proofs.«01_k».proof.Proof.KernelIdeal.Run
public import proofs.«01_k».proof.Proof.ReferenceFrame

@[expose] public section

noncomputable section

namespace Cert.Proof

open Idealize.ShloMosaic Idealize.SL.Sem

theorem kernel_frame : quiescent_Kernel (hKernel := Cert.Kernel.Gen.facts) := fun m g _ =>
  (θ_run _ _ _).mono (fun _ h => ⟨fun c => (h.1 c).2, h.2⟩) (Kernel.run_main m g)

theorem kernelIdeal_frame : quiescent_KernelIdeal (hKernelIdeal := Cert.KernelIdeal.Gen.facts) := fun m g _ =>
  (θ_run _ _ _).mono (fun _ h => ⟨fun c => (h.1 c).2, h.2⟩) (KernelIdeal.run_main m g)

theorem reference_frame : quiescent_ReferenceIdeal (hReferenceIdeal := Cert.ReferenceIdeal.Gen.facts) := fun m g _ =>
  ReferenceIdeal.frame m g

theorem kernelIdeal_frame_finite : quiescent_KernelIdeal_pre_finite (hKernelIdeal := Cert.KernelIdeal.Gen.facts) (hPre_finite := Cert.Pre_finite.Gen.facts) :=
  fun m g _ => kernelIdeal_frame m g trivial

theorem reference_frame_finite : quiescent_ReferenceIdeal_pre_finite (hReferenceIdeal := Cert.ReferenceIdeal.Gen.facts) (hPre_finite := Cert.Pre_finite.Gen.facts) :=
  fun m g _ => reference_frame m g trivial

/-- The ten named constants. -/
theorem preserves : preserves_Kernel_KernelIdeal :=
  ⟨IdealRules.named_const.statement Cert.KernelIdeal.κ "mu_sq" .f32 0x3F4F5C29#32 _ rfl,
   IdealRules.named_const.statement Cert.KernelIdeal.κ "hundredth" .f32 0x3C23D70A#32 _ rfl,
   IdealRules.named_const.statement Cert.KernelIdeal.κ "cross" .f32 0x3E3851EC#32 _ rfl,
   IdealRules.named_const.statement Cert.KernelIdeal.κ "neg_rest" .f32 0xBDCCCCCD#32 _ rfl,
   IdealRules.named_const.statement Cert.KernelIdeal.κ "rest" .f32 0x3DCCCCCD#32 _ rfl,
   IdealRules.named_const.statement Cert.KernelIdeal.κ "log_mu" .f32 0xBDD7C741#32 _ rfl,
   IdealRules.named_const.statement Cert.KernelIdeal.κ "rho" .f32 0x3F7D70A4#32 _ rfl,
   IdealRules.named_const.statement Cert.KernelIdeal.κ "top" .f32 0x7F61B1E6#32 _ rfl,
   IdealRules.named_const.statement Cert.KernelIdeal.κ "two_thirds" .f32 0x3F2AAAAB#32 _ rfl,
   IdealRules.named_const.statement Cert.KernelIdeal.κ "ninth" .f32 0x3DE38E39#32 _ rfl⟩

end Cert.Proof

end
-- ==== Proof.Consts.lean ====
/- Small facts the value proof reads constantly: the constants as real numbers, sums of reals among the extended
   reals, and the lane numbers. -/
module

public import proofs.«01_k».proof.Proof.KernelIdeal.Model
public import Idealize.ShloMosaic.Lib.Pointwise

@[expose] public section

noncomputable section

namespace Cert.Proof

open Cert.KernelIdeal Cert.KernelIdeal.Gen
open Idealize.ShloMosaic Idealize.ShloMosaic.TcCoe

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem coe_ite (p : Prop) [Decidable p] (a b : ℝ) : (if p then (a : EReal) else (b : EReal)) = ((if p then a else b : ℝ) : EReal) := by
  split <;> rfl

theorem coe_one : (1 : EReal) = ((1 : ℝ) : EReal) := rfl
theorem coe_zero : (0 : EReal) = ((0 : ℝ) : EReal) := rfl

theorem coe_max (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

theorem coe_sqrt {a : ℝ} (h : 0 ≤ a) : Ideal.sqrt (a : EReal) = ((Real.sqrt a : ℝ) : EReal) := by
  rw [Ideal.sqrt_coe, if_neg (not_lt.2 h)]

theorem coe_div (a : ℝ) {b : ℝ} (h : b ≠ 0) : Ideal.div (a : EReal) (b : EReal) = ((a / b : ℝ) : EReal) := by
  rw [Ideal.div_coe h, ← EReal.coe_mul, mul_one_div]

theorem two_f32 : Ideal.ofBits .f32 1073741824#32 = ((2 : ℝ) : EReal) := by
  simp [Ideal.ofBits, Ideal.ieee, -EReal.coe_mul]; norm_num
theorem half_f32 : Ideal.ofBits .f32 1056964608#32 = ((1 / 2 : ℝ) : EReal) := by
  simp [Ideal.ofBits, Ideal.ieee, -EReal.coe_mul]; norm_num
theorem three_f32 : Ideal.ofBits .f32 0x40400000#32 = ((3 : ℝ) : EReal) := by
  simp [Ideal.ofBits, Ideal.ieee, -EReal.coe_mul]; norm_num
theorem nine_f32 : Ideal.ofBits .f32 0x41100000#32 = ((9 : ℝ) : EReal) := by
  simp [Ideal.ofBits, Ideal.ieee, -EReal.coe_mul]; norm_num
theorem ten_f32 : Ideal.ofBits .f32 0x41200000#32 = ((10 : ℝ) : EReal) := by
  simp [Ideal.ofBits, Ideal.ieee, -EReal.coe_mul]; norm_num
theorem n99_f32 : Ideal.ofBits .f32 0x42C60000#32 = ((99 : ℝ) : EReal) := by
  simp [Ideal.ofBits, Ideal.ieee, -EReal.coe_mul]; norm_num
theorem n100_f32 : Ideal.ofBits .f32 0x42C80000#32 = ((100 : ℝ) : EReal) := by
  simp [Ideal.ofBits, Ideal.ieee, -EReal.coe_mul]; norm_num
theorem n2048_f32 : Ideal.ofBits .f32 1157627904#32 = ((2048 : ℝ) : EReal) := by
  simp [Ideal.ofBits, Ideal.ieee, -EReal.coe_mul]; norm_num
theorem n4194304_f32 : Ideal.ofBits .f32 1249902592#32 = ((4194304 : ℝ) : EReal) := by
  simp [Ideal.ofBits, Ideal.ieee, -EReal.coe_mul]; norm_num
theorem inf_f32 : Ideal.ofBits .f32 2139095040#32 = ⊤ := by
  simp [Ideal.ofBits, Ideal.ieee]

theorem named_mu_sq (w : BitVec 32) : Named.named (F := Ideal) κ "mu_sq" (φ := .f32) w = ((81 / 100 : ℝ) : EReal) := rfl
theorem named_hundredth (w : BitVec 32) : Named.named (F := Ideal) κ "hundredth" (φ := .f32) w = ((1 / 100 : ℝ) : EReal) := rfl
theorem named_cross (w : BitVec 32) : Named.named (F := Ideal) κ "cross" (φ := .f32) w = ((9 / 50 : ℝ) : EReal) := rfl
theorem named_neg_rest (w : BitVec 32) : Named.named (F := Ideal) κ "neg_rest" (φ := .f32) w = ((-1 / 10 : ℝ) : EReal) := rfl
theorem named_rest (w : BitVec 32) : Named.named (F := Ideal) κ "rest" (φ := .f32) w = ((1 / 10 : ℝ) : EReal) := rfl
theorem named_log_mu (w : BitVec 32) : Named.named (F := Ideal) κ "log_mu" (φ := .f32) w = ((Real.log (9 / 10) : ℝ) : EReal) := rfl
theorem named_rho (w : BitVec 32) : Named.named (F := Ideal) κ "rho" (φ := .f32) w = ((99 / 100 : ℝ) : EReal) := rfl
theorem named_top (w : BitVec 32) : Named.named (F := Ideal) κ "top" (φ := .f32) w = ⊤ := rfl
theorem named_two_thirds (w : BitVec 32) : Named.named (F := Ideal) κ "two_thirds" (φ := .f32) w = ((2 / 3 : ℝ) : EReal) := rfl
theorem named_ninth (w : BitVec 32) : Named.named (F := Ideal) κ "ninth" (φ := .f32) w = ((1 / 9 : ℝ) : EReal) := rfl

theorem select_eq {α : Type} {w : ℕ} (x y : BitVec w) (a b : α) : Scalar.select (IntOp.cmpi .eq x y) a b = if x = y then a else b := by
  unfold IntOp.cmpi
  rw [Scalar.select_ofBool]
  simp only [beq_iff_eq]

theorem ofNat_inj {a b : ℕ} (ha : a < 2 ^ 32) (hb : b < 2 ^ 32) : BitVec.ofNat 32 a = BitVec.ofNat 32 b ↔ a = b := by
  constructor
  · intro h
    have h := congrArg BitVec.toNat h
    rwa [BitVec.toNat_ofNat, BitVec.toNat_ofNat, Nat.mod_eq_of_lt ha, Nat.mod_eq_of_lt hb] at h
  · rintro rfl; rfl

theorem hot_eq {w : ℕ} (x y : BitVec w) : FloatOps.sitofp (F := Ideal) .f32 (BitVec.setWidth 32 (IntOp.cmpi .eq x y)) = ((if x = y then 1 else 0 : ℝ) : EReal) := by
  by_cases h : x = y
  · subst h
    rw [if_pos rfl]
    have : IntOp.cmpi .eq x x = 1#1 := by unfold IntOp.cmpi; simp
    rw [this]
    show (((BitVec.setWidth 32 1#1).toInt : ℝ) : EReal) = _
    norm_num
  · rw [if_neg h]
    have : IntOp.cmpi .eq x y = 0#1 := by
      have hb : (x == y) = false := by simpa using h
      unfold IntOp.cmpi
      simp only [hb]; rfl
    rw [this]
    show (((BitVec.setWidth 32 0#1).toInt : ℝ) : EReal) = _
    norm_num

theorem iv_eq (k : ℕ) : Scf.iv 0#32 1#32 k = BitVec.ofNat 32 k := by
  unfold Scf.iv; simp

theorem iv_succ_eq (k : ℕ) : Scalar.addi (Scf.iv 0#32 1#32 k) 1#32 = BitVec.ofNat 32 (k + 1) := by
  rw [iv_eq]; unfold Scalar.addi; simp [IntOp.addi, BitVec.ofNat_add]

theorem cols_at (j : Fin 64) : Cert.Proof.KernelIdeal.cols (ix2 0 j) = BitVec.ofNat 32 j.val := by pointwise [Cert.Proof.KernelIdeal.cols]
theorem rows_at (j : Fin 64) : Cert.Proof.KernelIdeal.rows (ix2 j 0) = BitVec.ofNat 32 j.val := by pointwise [Cert.Proof.KernelIdeal.rows]

theorem t1_trips : k0_t1_loop.trips = 32 := by decide +kernel
theorem t2_trips : k0_t2_loop.trips = 64 := by decide +kernel
theorem t3_trips : k0_t3_loop.trips = 8 := by decide +kernel

end Cert.Proof

end
-- ==== Proof.FirstMin.lean ====
/- The first place where a finite family is least, and the first three such places: how the kernel finds them (a
   minimum, then the least lane that attains it) and how a stable sort finds them. -/
module

public import Idealize.ShloMosaic.Lib.Pointwise
public import Idealize.ShloMosaic.Lib.SortPrefix

@[expose] public section

noncomputable section

namespace Cert.Proof

open Idealize.ShloMosaic

/-- `a` is the first place where `f` is least. -/
def FirstMin {n : ℕ} {α : Type} [LinearOrder α] (f : Fin n → α) (a : Fin n) : Prop := ∀ j, f a ≤ f j ∧ (j < a → f a < f j)

theorem FirstMin.unique {n : ℕ} {α : Type} [LinearOrder α] {f : Fin n → α} {a b : Fin n} (ha : FirstMin f a) (hb : FirstMin f b) : a = b := by
  rcases lt_trichotomy a b with h | h | h
  · exact absurd ((hb a).2 h) (not_lt.2 (ha b).1)
  · exact h
  · exact absurd ((ha b).2 h) (not_lt.2 (hb a).1)

theorem FirstMin.exists {n : ℕ} {α : Type} [LinearOrder α] [NeZero n] (f : Fin n → α) : ∃ a, FirstMin f a := by
  obtain ⟨a, -, ha⟩ := Finset.exists_min_image Finset.univ (fun j => toLex (f j, j)) ⟨0, Finset.mem_univ _⟩
  refine ⟨a, fun j => ?_⟩
  have h := ha j (Finset.mem_univ _)
  rw [Prod.Lex.le_iff] at h
  rcases h with h | h
  · exact ⟨le_of_lt h, fun _ => h⟩
  · exact ⟨le_of_eq h.1, fun hj => absurd h.2 (not_le.2 hj)⟩

/-- The first least place of `f`. -/
def firstMin {n : ℕ} {α : Type} [LinearOrder α] [NeZero n] (f : Fin n → α) : Fin n := (FirstMin.exists f).choose

theorem firstMin_spec {n : ℕ} {α : Type} [LinearOrder α] [NeZero n] (f : Fin n → α) : FirstMin f (firstMin f) := (FirstMin.exists f).choose_spec

theorem firstMin_eq {n : ℕ} {α : Type} [LinearOrder α] [NeZero n] {f : Fin n → α} {a : Fin n} (h : FirstMin f a) : firstMin f = a :=
  (firstMin_spec f).unique h

/-- Two families ordered alike have the same first least place. -/
theorem FirstMin.of_lt_iff {n : ℕ} {α β : Type} [LinearOrder α] [LinearOrder β] {f : Fin n → α} {g : Fin n → β} (h : ∀ i j, f i < f j ↔ g i < g j) {a : Fin n}
    (ha : FirstMin f a) : FirstMin g a := fun j =>
  ⟨not_lt.1 fun hl => absurd ((h j a).2 hl) (not_lt.2 (ha j).1), fun hj => (h a j).1 ((ha j).2 hj)⟩

theorem fold_min_eq {n : ℕ} (f : Fin n → EReal) {a : Fin n} (ha : FirstMin f a) : Finset.fold min ⊤ f Finset.univ = f a := by
  refine le_antisymm ?_ ?_
  · exact (Finset.fold_min_le _).2 (Or.inr ⟨a, Finset.mem_univ _, le_refl _⟩)
  · exact (Finset.le_fold_min _).2 ⟨le_top, fun j _ => (ha j).1⟩

theorem toInt_minsi (x y : BitVec 32) : (IntOp.minsi x y).toInt = min x.toInt y.toInt := by
  unfold IntOp.minsi
  by_cases h : x.toInt < y.toInt
  · rw [if_pos (by rw [BitVec.slt]; exact decide_eq_true h), min_eq_left h.le]
  · rw [if_neg (by rw [BitVec.slt]; simpa using h), min_eq_right (not_lt.1 h)]

/-- The kernel's search on 64 lanes: the least lane number among those that attain the minimum. -/
theorem fold_lane (f : Fin 64 → EReal) (lane : Fin 64 → BitVec 32) (hl : ∀ j, lane j = BitVec.ofNat 32 j.val) {a : Fin 64} (ha : FirstMin f a) :
    Finset.fold IntOp.minsi 2147483647#32 (fun x => if f x = Finset.fold min ⊤ f Finset.univ then lane x else 64#32) Finset.univ
      = BitVec.ofNat 32 a.val := by
  rw [fold_min_eq f ha]
  have hn : ∀ k : ℕ, k ≤ 64 → (BitVec.ofNat 32 k).toInt = k := fun k hk => by
    interval_cases k <;> rfl
  apply BitVec.eq_of_toInt_eq
  have hh : (Finset.fold IntOp.minsi 2147483647#32 (fun x => if f x = f a then lane x else 64#32) Finset.univ).toInt
      = Finset.fold min (2147483647#32 : BitVec 32).toInt (fun x => (if f x = f a then lane x else 64#32 : BitVec 32).toInt) Finset.univ :=
    (Finset.fold_hom (op := IntOp.minsi) (op' := min) toInt_minsi).symm
  have hal := a.isLt
  rw [hh, hn a.val (by omega)]
  refine le_antisymm ?_ ?_
  · refine (Finset.fold_min_le _).2 (Or.inr ⟨a, Finset.mem_univ _, ?_⟩)
    rw [if_pos rfl, hl, hn a.val (by omega)]
  · refine (Finset.le_fold_min _).2 ⟨by have := a.isLt; have : (2147483647#32 : BitVec 32).toInt = 2147483647 := by decide
                                        omega, fun j _ => ?_⟩
    split
    · rename_i h
      have hjl := j.isLt
      rw [hl, hn j.val (by omega)]
      by_contra hc
      have hja : j < a := by rw [Fin.lt_def]; omega
      exact absurd ((ha j).2 hja) (by rw [h]; exact lt_irrefl _)
    · have : (64#32 : BitVec 32).toInt = 64 := by decide
      rw [this]; omega

/-- `f` with the places in `s` put out of the way. -/
def masked {n : ℕ} (f : Fin n → EReal) (s : Fin n → Prop) [DecidablePred s] : Fin n → EReal := fun j => if s j then ⊤ else f j

/-- `a`, `b`, `c` are the first three places of `f` in order of value, then of place. -/
structure FirstThree {n : ℕ} (f : Fin n → EReal) (a b c : Fin n) : Prop where
  one : FirstMin f a
  two : FirstMin (masked f (· = a)) b
  three : FirstMin (masked f (fun j => j = a ∨ j = b)) c

theorem FirstMin.not_masked {n : ℕ} {f : Fin n → EReal} {s : Fin n → Prop} [DecidablePred s] (hf : ∀ j, f j < ⊤) {k b : Fin n} (hk : ¬ s k)
    (hb : FirstMin (masked f s) b) : ¬ s b := fun hs => by
  have h := (hb k).1
  unfold masked at h
  rw [if_pos hs, if_neg hk] at h
  exact absurd (hf k) (not_lt.2 h)

/-- The order in which a stable sort ranks the places of `f`. -/
def rankBefore {n : ℕ} (f : Fin n → EReal) (k k' : Fin n) : Bool := decide (f k < f k')

/-- The same with ties broken by place. -/
def rankBefore' {n : ℕ} (f : Fin n → EReal) (k k' : Fin n) : Bool := decide (f k < f k') || (decide (f k = f k') && decide (k < k'))

theorem rankBefore'_total {n : ℕ} (f : Fin n → EReal) : StrictTotalBefore (rankBefore' f) :=
  StrictTotalBefore.of_key_then_position (fun a b : EReal => decide (a < b)) f (fun a => by simp)
    (fun a b c hab hbc => by simp only [decide_eq_true_eq] at *; exact lt_trans hab hbc)
    (fun a b => by simp only [decide_eq_true_eq]; exact lt_trichotomy a b)

theorem stableSort_tie {n : ℕ} (f : Fin n → EReal) (l : List (Fin n)) (hl : l.Pairwise (· < ·)) :
    stableSort (rankBefore f) l = stableSort (rankBefore' f) l := by
  induction l with
  | nil => rfl
  | cons a l ih =>
    rw [List.pairwise_cons] at hl
    unfold stableSort
    rw [ih hl.2]
    refine insertBefore_congr _ _ a _ fun b hb => ?_
    have hab : a < b := hl.1 b ((perm_stableSort _ _).mem_iff.1 hb)
    unfold rankBefore rankBefore'
    rw [decide_eq_false (p := b < a) (not_lt.2 hab.le), Bool.and_false, Bool.or_false]

theorem sortedFrom_tie {n : ℕ} (f : Fin n → EReal) (k : Fin n) : sortedFrom (rankBefore f) k = sortedFrom (rankBefore' f) k := by
  have h : sortPositions n (rankBefore f) = sortPositions n (rankBefore' f) := stableSort_tie f _ (List.pairwise_lt_finRange n)
  unfold sortedFrom
  simp only [List.get_eq_getElem, h, Fin.val_cast]

theorem rankBefore'_false_of {n : ℕ} {f : Fin n → EReal} {s : Fin n → Prop} [DecidablePred s] {b : Fin n} (hb : FirstMin (masked f s) b) (hsb : ¬ s b) {p : Fin n} (hp : ¬ s p) :
    rankBefore' f p b = false := by
  have h := hb p
  unfold masked at h
  rw [if_neg hsb, if_neg hp] at h
  unfold rankBefore'
  simp only [Bool.or_eq_false_iff, Bool.and_eq_false_iff, decide_eq_false_iff_not, not_lt]
  refine ⟨h.1, ?_⟩
  by_cases hpb : p < b
  · exact Or.inl fun he => absurd (h.2 hpb) (by rw [he]; exact lt_irrefl _)
  · exact Or.inr (not_lt.1 hpb)

/-- A stable sort puts the first three places first. -/
theorem sortedFrom_firstThree (f : Fin 64 → EReal) (hf : ∀ j, f j < ⊤) {a b c : Fin 64} (h : FirstThree f a b c) :
    sortedFrom (rankBefore f) 0 = a ∧ sortedFrom (rankBefore f) 1 = b ∧ sortedFrom (rankBefore f) 2 = c := by
  obtain ⟨k, hk⟩ : ∃ k : Fin 64, ¬ (k = a) := ⟨if a = 0 then 1 else 0, by split <;> omega⟩
  obtain ⟨k', hk'⟩ : ∃ k' : Fin 64, ¬ (k' = a ∨ k' = b) := by
    by_contra hc
    push Not at hc
    have h0 := hc 0; have h1 := hc 1; have h2 := hc 2
    omega
  have hba : ¬ (b = a) := h.two.not_masked (s := (· = a)) hf hk
  have hcab : ¬ (c = a ∨ c = b) := h.three.not_masked (s := fun j => j = a ∨ j = b) hf hk'
  have h1 : FirstMin (masked f fun _ => False) a := by
    have : masked f (fun _ => False) = f := funext fun j => if_neg id
    rw [this]; exact h.one
  have hB := rankBefore'_total f
  have key := hB.sortedFrom_eq_of_prefix (k := 3) (by norm_num) ![a, b, c]
    (by
      intro i j hij
      fin_cases i <;> fin_cases j <;> simp at hij ⊢ <;> first | exact hba hij.symm | exact hba hij | exact hcab (Or.inl hij.symm) | exact hcab (Or.inl hij) | exact hcab (Or.inr hij.symm) | exact hcab (Or.inr hij))
    (by
      intro i j hij
      fin_cases i <;> fin_cases j <;> simp at hij ⊢
      · exact rankBefore'_false_of h1 id id
      · exact rankBefore'_false_of h1 id id
      · exact rankBefore'_false_of h.two hba (fun he => hcab (Or.inl he)))
    (by
      intro i p hp
      have p0 : ¬ p = a := fun he => hp 0 he.symm
      have p1 : ¬ p = b := fun he => hp 1 he.symm
      fin_cases i
      · exact rankBefore'_false_of h1 id id
      · exact rankBefore'_false_of h.two hba p0
      · exact rankBefore'_false_of h.three hcab (fun he => he.elim p0 p1))
  exact ⟨(sortedFrom_tie f 0).trans (key 0), (sortedFrom_tie f 1).trans (key 1), (sortedFrom_tie f 2).trans (key 2)⟩

/-- A stable sort puts the first least place first. -/
theorem sortedFrom_firstMin (f : Fin 64 → EReal) {a : Fin 64} (h : FirstMin f a) : sortedFrom (rankBefore f) 0 = a := by
  have h1 : FirstMin (masked f fun _ => False) a := by
    have : masked f (fun _ => False) = f := funext fun j => if_neg id
    rw [this]; exact h
  have key := (rankBefore'_total f).sortedFrom_eq_of_prefix (k := 1) (by norm_num) ![a]
    (fun i j _ => Subsingleton.elim _ _) (fun i j hij => by omega) (fun i p hp => by
      obtain rfl : i = 0 := Subsingleton.elim _ _
      exact rankBefore'_false_of h1 id id)
  exact (sortedFrom_tie f 0).trans (key 0)

end Cert.Proof

end
-- ==== Proof.Moves.lean ====
/- The moving prototypes in real numbers: one frame moves the nearest prototype a tenth of the way when its flag is on;
   and a chunk of 64 frames in closed form, as the kernel computes it. -/
module

public import proofs.«01_k».proof.Proof.FirstMin

@[expose] public section

noncomputable section

namespace Cert.Proof

/-- 64 prototypes of 2048 entries. -/
abbrev Protos : Type := Fin 64 → Fin 2048 → ℝ

/-- The squared distance of a frame from a prototype. -/
def sqDist (p : Protos) (z : Fin 2048 → ℝ) (j : Fin 64) : ℝ := ∑ d, (p j d - z d) ^ 2

/-- The prototype nearest to a frame, the first of them where several are as near. -/
def near (p : Protos) (z : Fin 2048 → ℝ) : Fin 64 := firstMin (sqDist p z)

/-- One frame: the nearest prototype moves to nine tenths of itself and one tenth of the frame. -/
def move (p : Protos) (z : Fin 2048 → ℝ) (on : Prop) [Decidable on] : Protos := fun k d =>
  if on ∧ k = near p z then 9 / 10 * p k d + 1 / 10 * z d else p k d

/-- The prototypes after the first `n` frames of `z`. -/
def moves (z : ℕ → Fin 2048 → ℝ) (on : ℕ → Prop) [DecidablePred on] (p : Protos) : ℕ → Protos
  | 0 => p
  | n + 1 => move (moves z on p n) (z n) (on n)

theorem moves_add (z : ℕ → Fin 2048 → ℝ) (on : ℕ → Prop) [DecidablePred on] (p : Protos) (m n : ℕ) :
    moves z on p (m + n) = moves (fun i => z (m + i)) (fun i => on (m + i)) (moves z on p m) n := by
  induction n with
  | zero => rfl
  | succ n ih => rw [← add_assoc]; unfold moves; rw [ih]

theorem moves_congr {z z' : ℕ → Fin 2048 → ℝ} {on on' : ℕ → Prop} [DecidablePred on] [DecidablePred on'] (p : Protos) (n : ℕ)
    (hz : ∀ i < n, z i = z' i) (ho : ∀ i < n, on i ↔ on' i) : moves z on p n = moves z' on' p n := by
  induction n with
  | zero => rfl
  | succ n ih =>
    unfold moves
    rw [ih (fun i hi => hz i (by omega)) (fun i hi => ho i (by omega)), hz n (by omega)]
    unfold move
    simp only [ho n (by omega)]

/-- The inner product of two rows. -/
def dot (a b : Fin 2048 → ℝ) : ℝ := ∑ d, a d * b d

theorem sqDist_eq (p : Protos) (z : Fin 2048 → ℝ) (j : Fin 64) : sqDist p z j = (dot (p j) (p j) - 2 * dot z (p j)) + dot z z := by
  unfold sqDist dot
  rw [Finset.mul_sum, ← Finset.sum_sub_distrib, ← Finset.sum_add_distrib]
  exact Finset.sum_congr rfl fun d _ => by ring

/-- The nearest prototype, from the squared norms and the products alone. -/
theorem near_firstMin (p : Protos) (z : Fin 2048 → ℝ) : FirstMin (fun j => dot (p j) (p j) - 2 * dot z (p j)) (near p z) :=
  (firstMin_spec (sqDist p z)).of_lt_iff fun i j => by rw [sqDist_eq, sqDist_eq]; constructor <;> intro h <;> linarith

/-- How often a frame `i < n` moved prototype `k`: its indicator. -/
def hits (z : ℕ → Fin 2048 → ℝ) (on : ℕ → Prop) [DecidablePred on] (p : Protos) (i : ℕ) (k : Fin 64) : ℝ :=
  if on i ∧ k = near (moves z on p i) (z i) then 1 else 0

theorem move_eq (z : ℕ → Fin 2048 → ℝ) (on : ℕ → Prop) [DecidablePred on] (p : Protos) (n : ℕ) (k : Fin 64) (d : Fin 2048) :
    moves z on p (n + 1) k d = moves z on p n k d + hits z on p n k * (-1 / 10 * moves z on p n k d + 1 / 10 * z n d) := by
  rw [moves]; unfold move hits
  split <;> ring

theorem dot_move_left (z : ℕ → Fin 2048 → ℝ) (on : ℕ → Prop) [DecidablePred on] (p : Protos) (n : ℕ) (k : Fin 64) (a : Fin 2048 → ℝ) :
    dot a (moves z on p (n + 1) k) = dot a (moves z on p n k) + hits z on p n k * (-1 / 10 * dot a (moves z on p n k) + 1 / 10 * dot a (z n)) := by
  unfold dot
  simp only [move_eq, Finset.mul_sum, ← Finset.sum_add_distrib]
  exact Finset.sum_congr rfl fun d _ => by ring

theorem hits_sq (z : ℕ → Fin 2048 → ℝ) (on : ℕ → Prop) [DecidablePred on] (p : Protos) (n : ℕ) (k : Fin 64) :
    hits z on p n k * hits z on p n k = hits z on p n k := by
  unfold hits; split <;> ring

theorem dot_self_move (z : ℕ → Fin 2048 → ℝ) (on : ℕ → Prop) [DecidablePred on] (p : Protos) (n : ℕ) (k : Fin 64) :
    dot (moves z on p (n + 1) k) (moves z on p (n + 1) k)
      = dot (moves z on p n k) (moves z on p n k) + hits z on p n k * (81 / 100 * dot (moves z on p n k) (moves z on p n k) + 1 / 100 * dot (z n) (z n)
          + 9 / 50 * dot (z n) (moves z on p n k) - dot (moves z on p n k) (moves z on p n k)) := by
  by_cases h : on n ∧ k = near (moves z on p n) (z n)
  · have h1 : hits z on p n k = 1 := if_pos h
    simp only [dot, move_eq, h1, one_mul, Finset.mul_sum, ← Finset.sum_add_distrib, ← Finset.sum_sub_distrib]
    exact Finset.sum_congr rfl fun d _ => by ring
  · have h0 : hits z on p n k = 0 := if_neg h
    simp only [dot, move_eq, h0, zero_mul, add_zero]

/-- The number of hits of the first `n` frames. -/
def total (z : ℕ → Fin 2048 → ℝ) (on : ℕ → Prop) [DecidablePred on] (p : Protos) (n : ℕ) (k : Fin 64) : ℕ :=
  (Finset.range n).sum fun i => if on i ∧ k = near (moves z on p i) (z i) then 1 else 0

theorem total_eq (z : ℕ → Fin 2048 → ℝ) (on : ℕ → Prop) [DecidablePred on] (p : Protos) (n : ℕ) (k : Fin 64) :
    (total z on p n k : ℝ) = ∑ i ∈ Finset.range n, hits z on p i k := by
  unfold total hits; push_cast; rfl

/-- The closed form: each prototype is its start times 9/10 per hit, plus each hitting frame's tenth times 9/10 per later hit. -/
theorem moves_closed (z : ℕ → Fin 2048 → ℝ) (on : ℕ → Prop) [DecidablePred on] (p : Protos) (n : ℕ) (k : Fin 64) (d : Fin 2048) :
    moves z on p n k d = (9 / 10 : ℝ) ^ total z on p n k * p k d
      + ∑ i ∈ Finset.range n, 1 / 10 * hits z on p i k * (9 / 10 : ℝ) ^ (total z on p n k - total z on p (i + 1) k) * z i d := by
  induction n with
  | zero => simp [moves, total]
  | succ n ih =>
    have hmono : ∀ i < n, total z on p (i + 1) k ≤ total z on p n k := fun i hi =>
      Finset.sum_le_sum_of_subset (Finset.range_subset_range.2 (by omega))
    have hsucc : total z on p (n + 1) k = total z on p n k + if on n ∧ k = near (moves z on p n) (z n) then 1 else 0 := Finset.sum_range_succ _ _
    rw [move_eq, Finset.sum_range_succ, Nat.sub_self, pow_zero]
    by_cases h : on n ∧ k = near (moves z on p n) (z n)
    · have h1 : hits z on p n k = 1 := if_pos h
      rw [if_pos h] at hsucc
      have hs : ∑ i ∈ Finset.range n, 1 / 10 * hits z on p i k * (9 / 10 : ℝ) ^ (total z on p (n + 1) k - total z on p (i + 1) k) * z i d
          = 9 / 10 * ∑ i ∈ Finset.range n, 1 / 10 * hits z on p i k * (9 / 10 : ℝ) ^ (total z on p n k - total z on p (i + 1) k) * z i d := by
        rw [Finset.mul_sum]
        refine Finset.sum_congr rfl fun i hi => ?_
        have hm := hmono i (Finset.mem_range.1 hi)
        rw [hsucc, show total z on p n k + 1 - total z on p (i + 1) k = (total z on p n k - total z on p (i + 1) k) + 1 by omega, pow_succ]
        ring
      rw [hs, hsucc, pow_succ, h1, ih]; ring
    · have h0 : hits z on p n k = 0 := if_neg h
      rw [if_neg h, add_zero] at hsucc
      rw [hsucc, h0, ih]; ring

theorem exp_total (n : ℕ) : Real.exp ((n : ℝ) * Real.log (9 / 10)) = (9 / 10 : ℝ) ^ n := by
  rw [Real.exp_nat_mul, Real.exp_log (by norm_num)]

end Cert.Proof

end
-- ==== Proof.KernelIdeal.FrameValue.lean ====
/- One frame of the kernel's inner loop, in real numbers: the carried products, squared norms and the record of nearest
   prototypes stay what the moving prototypes say they are. -/
module

public import proofs.«01_k».proof.Proof.Consts
public import proofs.«01_k».proof.Proof.Moves

@[expose] public section

set_option maxRecDepth 16384

noncomputable section

namespace Cert.Proof.KernelIdeal

open Cert.KernelIdeal Cert.KernelIdeal.Gen
open Idealize.ShloMosaic Idealize.ShloMosaic.TcCoe

/-- A tabulated vector of reals. -/
def IsReal {a b : ℕ} (v : (⟨2, ![a, b]⟩ : Shape).Idx → Ideal .f32) (r : Fin a → Fin b → ℝ) : Prop := ∀ i j, v (ix2 i j) = ((r i j : ℝ) : EReal)

theorem pay10_at {Z : Vec Ideal S64x2048 .f32} {z : ℕ → Fin 2048 → ℝ} (hZ : IsReal Z fun i d => z i.val d) (i j : Fin 64) :
    k0_pay10 (F := Ideal) Z (ix2 i j) = ((dot (z i.val) (z j.val) : ℝ) : EReal) := by
  pointwise [k0_pay10]
  simp only [hZ i, hZ j, ← EReal.coe_mul, coe_sum]; rfl

theorem pay11_at {Z : Vec Ideal S64x2048 .f32} {z : ℕ → Fin 2048 → ℝ} (hZ : IsReal Z fun i d => z i.val d) (i : Fin 64) :
    k0_pay11 (F := Ideal) Z (ix2 i 0) = ((dot (z i.val) (z i.val) : ℝ) : EReal) := by
  pointwise [k0_pay11]
  simp only [hZ i, ← EReal.coe_mul, coe_sum]; rfl

theorem pay9_at {Z P : Vec Ideal S64x2048 .f32} {z : ℕ → Fin 2048 → ℝ} {p : Protos} (hZ : IsReal Z fun i d => z i.val d) (hP : IsReal P p) (i k : Fin 64) :
    k0_pay9 (F := Ideal) Z P (ix2 i k) = ((dot (z i.val) (p k) : ℝ) : EReal) := by
  pointwise [k0_pay9]
  simp only [hZ i, hP k, ← EReal.coe_mul, coe_sum]; rfl

theorem pay13_at {Z P : Vec Ideal S64x2048 .f32} {z : ℕ → Fin 2048 → ℝ} {p : Protos} (hZ : IsReal Z fun i d => z i.val d) (hP : IsReal P p) (k : Fin 64) :
    k0_pay13 (F := Ideal) Z P (ix2 0 k) = ((dot (z 0) (p k) : ℝ) : EReal) := by
  pointwise [k0_pay13]
  exact pay9_at hZ hP 0 k

theorem pay12_at (i k : Fin 64) : k0_pay12 (F := Ideal) (ix2 i k) = 0 := by
  pointwise [k0_pay12]

theorem sum_pick (f : Fin 64 → EReal) (lane : Fin 64 → BitVec 32) (hl : ∀ j, lane j = BitVec.ofNat 32 j.val) (n : ℕ) (hn : n < 2 ^ 32) :
    ∑ x, Scalar.select (IntOp.cmpi CmpIPredicate.eq (lane x) (BitVec.ofNat 32 n)) (f x) 0 = if h : n < 64 then f ⟨n, h⟩ else 0 := by
  simp only [select_eq, hl]
  split
  · rename_i h
    rw [Finset.sum_eq_single ⟨n, h⟩]
    · rw [if_pos rfl]
    · intro b _ hb
      rw [if_neg]
      intro he
      exact hb (Fin.ext ((ofNat_inj (by omega) hn).1 he))
    · intro hm; exact absurd (Finset.mem_univ _) hm
  · rename_i h
    refine Finset.sum_eq_zero fun b _ => if_neg fun he => ?_
    have := (ofNat_inj (by omega) hn).1 he
    omega

theorem pay5_at {Z : Vec Ideal S64x2048 .f32} {z : ℕ → Fin 2048 → ℝ} (hZ : IsReal Z fun i d => z i.val d) (n : ℕ) (hn : n < 64) (i : Fin 64) :
    k0_pay5 (F := Ideal) cols (k0_pay10 Z) (Scf.iv 0#32 1#32 n) (ix2 i 0) = ((dot (z i.val) (z n) : ℝ) : EReal) := by
  pointwise [k0_pay5]
  rw [iv_eq]
  refine (sum_pick (fun x => k0_pay10 (F := Ideal) Z (ix2 i x)) (fun x => cols (ix2 0 x)) cols_at n (by omega)).trans ?_
  rw [dif_pos hn]
  exact pay10_at hZ i ⟨n, hn⟩

theorem pay6_at {Z : Vec Ideal S64x2048 .f32} {z : ℕ → Fin 2048 → ℝ} (hZ : IsReal Z fun i d => z i.val d) (n : ℕ) (hn : n + 1 < 64) :
    k0_pay6 (F := Ideal) rows cols (k0_pay10 Z) (Scf.iv 0#32 1#32 n) (Scalar.addi (Scf.iv 0#32 1#32 n) 1#32) (ix2 0 0) = ((dot (z (n + 1)) (z n) : ℝ) : EReal) := by
  pointwise [k0_pay6]
  rw [iv_succ_eq]
  refine (sum_pick (fun x => k0_pay5 (F := Ideal) cols (k0_pay10 Z) (Scf.iv 0#32 1#32 n) (ix2 x 0)) (fun x => rows (ix2 x 0)) rows_at (n + 1) (by omega)).trans ?_
  rw [dif_pos hn]
  exact pay5_at hZ n (by omega) ⟨n + 1, hn⟩

theorem pay8_at {Z : Vec Ideal S64x2048 .f32} {z : ℕ → Fin 2048 → ℝ} (hZ : IsReal Z fun i d => z i.val d) (n : ℕ) (hn : n < 64) :
    k0_pay8 (F := Ideal) rows (k0_pay11 Z) (Scf.iv 0#32 1#32 n) (ix2 0 0) = ((1 / 100 * dot (z n) (z n) : ℝ) : EReal) := by
  pointwise [k0_pay8]
  rw [named_hundredth, iv_eq]
  rw [(sum_pick (fun x => k0_pay11 (F := Ideal) Z (ix2 x 0)) (fun x => BitVec.ofNat 32 x.val) (fun _ => rfl) n (by omega)), dif_pos hn, pay11_at hZ, ← EReal.coe_mul]

theorem pay14_at (k : Fin k0_t2_loop.trips) (S : FVec Ideal S64x64 .f32) (hn : k.val + 1 < 64) (j : Fin 64) :
    k0_pay14 (F := Ideal) rows k S (ix2 0 j) = S (ix2 ⟨k.val + 1, hn⟩ j) := by
  pointwise [k0_pay14]
  rw [iv_succ_eq]
  refine (sum_pick (fun x => S (ix2 x j)) (fun x => rows (ix2 x 0)) rows_at (k.val + 1) (by omega)).trans ?_
  rw [dif_pos hn]

theorem pay3_at {row pn : FVec Ideal S1x64 .f32} {r q : Fin 64 → ℝ} (hr : ∀ j, row (ix2 0 j) = ((r j : ℝ) : EReal)) (hq : ∀ j, pn (ix2 0 j) = ((q j : ℝ) : EReal))
    {a : Fin 64} (ha : FirstMin (fun j => q j - 2 * r j) a) (j : Fin 64) :
    k0_pay3 (F := Ideal) cols row pn (ix2 0 j) = ((if j = a then 1 else 0 : ℝ) : EReal) := by
  pointwise [k0_pay3]
  have ha' : FirstMin (fun x => pn (ix2 0 x) - Ideal.ofBits FTy.f32 1073741824#32 * row (ix2 0 x)) a := by
    simp only [hr, hq, two_f32, ← EReal.coe_mul, ← EReal.coe_sub]
    exact ha.of_lt_iff fun i j => EReal.coe_lt_coe_iff.symm
  rw [inf_f32, fold_lane _ (fun x => BitVec.ofNat 32 x.val) (fun _ => rfl) ha', select_eq]
  simp only [ofNat_inj (a := j.val) (b := a.val) (by omega) (by omega), ← Fin.ext_iff]
  split <;> rfl

theorem pay4_at (row pn : FVec Ideal S1x64 .f32) (j : Fin 64) : k0_pay4 (F := Ideal) cols row pn (ix2 0 j) = k0_pay3 (F := Ideal) cols row pn (ix2 0 j) := by
  pointwise [k0_pay4]

theorem put_row (x : Vec Ideal S64x64 .f32) (k : Fin k0_t2_loop.trips) (w : FVec Ideal S1x64 .f32) (i j : Fin 64) :
    VecWindow.put x (k0_off3 k) S1x64.size w (ix2 i j) = if i.val = k.val then w (ix2 0 j) else x (ix2 i j) := by
  have h0 : k0_off3 k = ![k.val, 0] := k0_off3_eq k
  unfold VecWindow.put
  have hj := j.isLt
  by_cases h : i.val = k.val
  · rw [if_pos h, dif_pos]
    · refine congrArg w (funext fun a => ?_)
      refine Fin.ext ?_
      show (ix2 i j a).val - k0_off3 k a = _
      rw [h0]
      match a with
      | 0 => show i.val - k.val = 0; omega
      | 1 => show j.val - 0 = j.val; omega
    · intro a
      rw [h0]
      match a with
      | 0 => show k.val ≤ i.val ∧ i.val < k.val + 1; omega
      | 1 => show 0 ≤ j.val ∧ j.val < 0 + 64; omega
  · rw [if_neg h, dif_neg]
    intro hc
    have h1 := hc 0
    rw [h0] at h1
    have h1 : k.val ≤ i.val ∧ i.val < k.val + 1 := h1
    omega

/-- What the carried values are after `n` frames of a chunk. -/
structure FrameInv (z : ℕ → Fin 2048 → ℝ) (on : ℕ → Prop) [DecidablePred on] (p : Protos) (n : ℕ) (s : Carried Ideal × Vec Ideal S64x64 .f32) : Prop where
  row : n < 64 → ∀ j : Fin 64, s.1.1 (ix2 0 j) = ((dot (z n) (moves z on p n j) : ℝ) : EReal)
  cur : ∀ i j : Fin 64, s.1.2.1 (ix2 i j) = ((dot (z i.val) (moves z on p n j) : ℝ) : EReal)
  norm : ∀ j : Fin 64, s.1.2.2 (ix2 0 j) = ((dot (moves z on p n j) (moves z on p n j) : ℝ) : EReal)
  record : ∀ i j : Fin 64, s.2 (ix2 i j) = ((if i.val < n then hits z on p i.val j else 0 : ℝ) : EReal)

theorem frame_inv {Z : Vec Ideal S64x2048 .f32} {z : ℕ → Fin 2048 → ℝ} (hZ : IsReal Z fun i d => z i.val d) (on : ℕ → Prop) [DecidablePred on] (p : Protos)
    (w : BitVec 32) (k : Fin k0_t2_loop.trips) (hw : hit w ↔ on k.val) {s : Carried Ideal × Vec Ideal S64x64 .f32} (h : FrameInv z on p k.val s) :
    FrameInv z on p (k.val + 1) (frameStep w Z k s) := by
  have hk : k.val < 64 := t2_trips ▸ k.isLt
  unfold frameStep
  by_cases hh : hit w
  · rw [if_pos hh]
    have hon : on k.val := hw.1 hh
    have hhot : ∀ j : Fin 64, k0_pay3 (F := Ideal) cols s.1.1 s.1.2.2 (ix2 0 j) = ((hits z on p k.val j : ℝ) : EReal) := fun j => by
      rw [pay3_at (h.row hk) h.norm (near_firstMin (moves z on p k.val) (z k.val)) j]
      unfold hits
      simp only [hon, true_and]
    refine ⟨fun hn j => ?_, fun i j => ?_, fun j => ?_, fun i j => ?_⟩
    · pointwise [k0_pay16]
      rw [pay14_at k _ hn j, h.cur ⟨k.val + 1, hn⟩ j, hhot, named_neg_rest, named_rest, pay6_at hZ k.val hn]
      simp only [← EReal.coe_mul, ← EReal.coe_add]
      rw [dot_move_left]
    · pointwise [k0_pay17]
      rw [h.cur i j, hhot, named_neg_rest, named_rest, pay5_at hZ k.val hk]
      simp only [← EReal.coe_mul, ← EReal.coe_add]
      rw [dot_move_left]
    · pointwise [k0_pay15, k0_pay7]
      rw [h.norm j, hhot, named_mu_sq, named_cross, pay8_at hZ k.val hk, h.row hk j]
      simp only [← EReal.coe_mul, ← EReal.coe_add, ← EReal.coe_sub]
      rw [dot_self_move]
    · show VecWindow.put s.2 (k0_off3 k) S1x64.size (k0_pay4 cols s.1.1 s.1.2.2) (ix2 i j) = _
      rw [put_row, pay4_at, hhot, h.record]
      by_cases hi : i.val = k.val
      · rw [if_pos hi, if_pos (by omega), hi]
      · rw [if_neg hi]
        by_cases hl : i.val < k.val
        · rw [if_pos hl, if_pos (by omega)]
        · rw [if_neg hl, if_neg (by omega)]
  · rw [if_neg hh]
    have hoff : ¬ on k.val := fun ho => hh (hw.2 ho)
    have hz0 : ∀ j, hits z on p k.val j = 0 := fun j => if_neg fun hc => hoff hc.1
    refine ⟨fun hn j => ?_, fun i j => ?_, fun j => ?_, fun i j => ?_⟩
    · show k0_pay14 (F := Ideal) rows k s.1.2.1 (ix2 0 j) = _
      rw [pay14_at k _ hn j, h.cur, dot_move_left, hz0, zero_mul, add_zero]
    · show s.1.2.1 (ix2 i j) = _
      rw [h.cur, dot_move_left, hz0, zero_mul, add_zero]
    · show s.1.2.2 (ix2 0 j) = _
      rw [h.norm, dot_self_move, hz0, zero_mul, add_zero]
    · show s.2 (ix2 i j) = _
      rw [h.record]
      by_cases hl : i.val < k.val
      · rw [if_pos hl, if_pos (by omega)]
      · rw [if_neg hl]
        by_cases hi : i.val = k.val
        · rw [if_pos (by omega), hi, hz0]
        · rw [if_neg (by omega)]

end Cert.Proof.KernelIdeal

end
-- ==== Proof.KernelIdeal.ChunkValue.lean ====
/- A chunk of 64 frames and the 32 chunks, in real numbers: the prototypes the kernel leaves are the moving prototypes. -/
module

public import proofs.«01_k».proof.Proof.KernelIdeal.FrameValue

@[expose] public section

set_option maxRecDepth 16384

noncomputable section

namespace Cert.Proof.KernelIdeal

open Cert.KernelIdeal Cert.KernelIdeal.Gen
open Idealize.ShloMosaic Idealize.ShloMosaic.TcCoe

theorem inner_inv {Z : Vec Ideal S64x2048 .f32} {z : ℕ → Fin 2048 → ℝ} (hZ : IsReal Z fun i d => z i.val d) (on : ℕ → Prop) [DecidablePred on] (p : Protos)
    (w : Fin k0_t2_loop.trips → BitVec 32) (hw : ∀ k, hit (w k) ↔ on k.val) {s : Carried Ideal × Vec Ideal S64x64 .f32} (h : FrameInv z on p 0 s) (n : ℕ) (hn : n ≤ 64) :
    FrameInv z on p n (inner w Z s n) := by
  induction n with
  | zero => exact h
  | succ n ih => exact (inner_succ w Z s ⟨n, by rw [t2_trips]; omega⟩).symm ▸ frame_inv hZ on p _ ⟨n, by rw [t2_trips]; omega⟩ (hw _) (ih (by omega))

theorem inner_start {Z P : Vec Ideal S64x2048 .f32} {pn : FVec Ideal S1x64 .f32} {z : ℕ → Fin 2048 → ℝ} (hZ : IsReal Z fun i d => z i.val d) (on : ℕ → Prop) [DecidablePred on] {p : Protos}
    (hP : IsReal P p) (hpn : ∀ j : Fin 64, pn (ix2 0 j) = ((dot (p j) (p j) : ℝ) : EReal)) :
    FrameInv z on p 0 ((k0_pay13 Z P, k0_pay9 Z P, pn), k0_pay12 (F := Ideal)) where
  row _ j := pay13_at hZ hP j
  cur i j := pay9_at hZ hP i j
  norm j := hpn j
  record i j := by rw [if_neg (by omega)]; exact pay12_at i j

theorem select_sge (i j : Fin 64) (a b : EReal) :
    Scalar.select (IntOp.cmpi CmpIPredicate.sge (BitVec.ofNat 32 i.val) (BitVec.ofNat 32 j.val)) a b = if j.val ≤ i.val then a else b := by
  have h : ∀ k : Fin 64, (BitVec.ofNat 32 k.val).toInt = k.val := fun k => by fin_cases k <;> rfl
  unfold IntOp.cmpi
  rw [Scalar.select_ofBool]
  simp only [BitVec.sle, h, decide_eq_true_eq, Nat.cast_le]

theorem pay33_at (i j : Fin 64) : k0_pay33 (F := Ideal) (ix2 i j) = ((if j.val ≤ i.val then 1 else 0 : ℝ) : EReal) := by
  pointwise [k0_pay33]
  rw [select_sge]
  split <;> rfl

theorem hits_range (z : ℕ → Fin 2048 → ℝ) (on : ℕ → Prop) [DecidablePred on] (p : Protos) (j : Fin 64) :
    ∑ i : Fin 64, (if i.val < 64 then hits z on p i.val j else 0) = (total z on p 64 j : ℝ) := by
  rw [total_eq, Finset.sum_range]
  exact Finset.sum_congr rfl fun i _ => if_pos i.isLt

theorem pay18_at {R : Vec Ideal S64x64 .f32} {z : ℕ → Fin 2048 → ℝ} {on : ℕ → Prop} [DecidablePred on] {p : Protos}
    (hR : ∀ i j : Fin 64, R (ix2 i j) = ((if i.val < 64 then hits z on p i.val j else 0 : ℝ) : EReal)) (j : Fin 64) :
    k0_pay18 (F := Ideal) R (ix2 0 j) = ((total z on p 64 j : ℝ) : EReal) := by
  pointwise [k0_pay18]
  simp only [hR, coe_sum]
  rw [hits_range]

theorem hits_upto (z : ℕ → Fin 2048 → ℝ) (on : ℕ → Prop) [DecidablePred on] (p : Protos) (i j : Fin 64) :
    ∑ x : Fin 64, (if x.val ≤ i.val then 1 else 0 : ℝ) * (if x.val < 64 then hits z on p x.val j else 0) = (total z on p (i.val + 1) j : ℝ) := by
  rw [total_eq]
  have h1 : ∀ x : Fin 64, (if x.val ≤ i.val then 1 else 0 : ℝ) * (if x.val < 64 then hits z on p x.val j else 0) = if x.val < i.val + 1 then hits z on p x.val j else 0 := fun x => by
    rw [if_pos x.isLt]
    by_cases h : x.val ≤ i.val
    · rw [if_pos h, if_pos (by omega), one_mul]
    · rw [if_neg h, if_neg (by omega), zero_mul]
  simp only [h1]
  rw [← Finset.sum_range (fun x => if x < i.val + 1 then hits z on p x j else 0), ← Finset.sum_filter]
  refine Finset.sum_congr (Finset.ext fun x => ?_) fun _ _ => rfl
  have := i.isLt
  simp only [Finset.mem_filter, Finset.mem_range]
  omega

theorem pay19_at {R : Vec Ideal S64x64 .f32} {z : ℕ → Fin 2048 → ℝ} {on : ℕ → Prop} [DecidablePred on] {p : Protos}
    (hR : ∀ i j : Fin 64, R (ix2 i j) = ((if i.val < 64 then hits z on p i.val j else 0 : ℝ) : EReal)) (i j : Fin 64) :
    k0_pay19 (F := Ideal) k0_pay33 R (ix2 i j)
      = ((1 / 10 * hits z on p i.val j * (9 / 10 : ℝ) ^ (total z on p 64 j - total z on p (i.val + 1) j) : ℝ) : EReal) := by
  pointwise [k0_pay19]
  have hle : total z on p (i.val + 1) j ≤ total z on p 64 j := Finset.sum_le_sum_of_subset (Finset.range_subset_range.2 (by have := i.isLt; omega))
  rw [pay18_at hR]
  simp only [hR, pay33_at, named_rest, named_log_mu, ← EReal.coe_mul, coe_sum, ← EReal.coe_sub]
  rw [hits_upto, Ideal.exp_coe, ← EReal.coe_mul, if_pos i.isLt, ← Nat.cast_sub hle, exp_total]

theorem pay20_at {R : Vec Ideal S64x64 .f32} {z : ℕ → Fin 2048 → ℝ} {on : ℕ → Prop} [DecidablePred on] {p : Protos}
    (hR : ∀ i j : Fin 64, R (ix2 i j) = ((if i.val < 64 then hits z on p i.val j else 0 : ℝ) : EReal)) (i j : Fin 64) :
    k0_pay20 (F := Ideal) k0_pay30 R (ix2 i j) = ((if i = j then (9 / 10 : ℝ) ^ total z on p 64 j else 0 : ℝ) : EReal) := by
  pointwise [k0_pay20, k0_pay30]
  rw [pay18_at hR, named_log_mu, ← EReal.coe_mul, Ideal.exp_coe, exp_total, select_eq]
  simp only [ofNat_inj (a := i.val) (b := j.val) (by omega) (by omega), ← Fin.ext_iff]
  split <;> rfl

theorem pay34_at {Z P : Vec Ideal S64x2048 .f32} {R : Vec Ideal S64x64 .f32} {z : ℕ → Fin 2048 → ℝ} {on : ℕ → Prop} [DecidablePred on] {p : Protos}
    (hZ : IsReal Z fun i d => z i.val d) (hP : IsReal P p)
    (hR : ∀ i j : Fin 64, R (ix2 i j) = ((if i.val < 64 then hits z on p i.val j else 0 : ℝ) : EReal)) :
    IsReal (k0_pay34 (F := Ideal) Z P (k0_pay19 k0_pay33 R) (k0_pay20 k0_pay30 R) (constant S64x2048 .f32 0x00000000#32)) (moves z on p 64) := by
  intro k d
  pointwise [k0_pay34]
  have h1 : ∑ x : Fin 64, (if k = x then (9 / 10 : ℝ) ^ total z on p 64 x else 0) * p x d = (9 / 10 : ℝ) ^ total z on p 64 k * p k d := by
    rw [Finset.sum_eq_single k (fun b _ hb => by rw [if_neg (Ne.symm hb), zero_mul]) (fun hm => absurd (Finset.mem_univ _) hm), if_pos rfl]
  have h2 : ∀ x : Fin 64, P (ix2 x d) = ((p x d : ℝ) : EReal) := fun x => hP x d
  have h3 : ∀ x : Fin 64, Z (ix2 x d) = ((z x.val d : ℝ) : EReal) := fun x => hZ x d
  simp only [pay19_at hR, pay20_at hR, h2, h3, ← EReal.coe_mul, coe_sum]
  rw [h1, moves_closed, Finset.sum_range]
  first | rw [zero_add, EReal.coe_add] | rw [EReal.coe_add]

/-- The frames of chunk `t`. -/
def chunkFrames (zz : ℕ → Fin 2048 → ℝ) (t : ℕ) : ℕ → Fin 2048 → ℝ := fun i => zz (64 * t + i)

theorem chunkOf_real {z : Vec Ideal S2048x2048 .f32} {zz : ℕ → Fin 2048 → ℝ} (hz : IsReal z fun i d => zz i.val d) (t : Fin k0_t1_loop.trips) :
    IsReal (chunkOf z t) fun i d => chunkFrames zz t.val i.val d := by
  intro i d
  have ht : t.val < 32 := lt_of_lt_of_eq t.isLt t1_trips
  have hi := i.isLt
  have h0 : k0_off1 t = ![64 * t.val, 0] := k0_off1_eq t
  have e : (Rect.unit (s := S2048x2048) (k0_off1 t) S64x2048.size (k0_off1_inb t)).emb (ix2 i d) = ix2 (⟨64 * t.val + i.val, by omega⟩ : Fin 2048) d := by
    funext a
    refine Fin.ext ?_
    show k0_off1 t a + 1 * (ix2 i d a).val = _
    rw [h0]
    match a with
    | 0 => show 64 * t.val + 1 * i.val = 64 * t.val + i.val; omega
    | 1 => show 0 + 1 * d.val = d.val; omega
  show z ((Rect.unit (s := S2048x2048) (k0_off1 t) S64x2048.size (k0_off1_inb t)).emb (ix2 i d)) = _
  rw [e]
  exact hz _ d

theorem flagAt_eq (g : Vec Ideal S2048 .i32) (t : Fin k0_t1_loop.trips) (k : Fin k0_t2_loop.trips) (h : 64 * t.val + k.val < 2048) :
    flagAt (F := Ideal) g t k = g (ix1 ⟨64 * t.val + k.val, h⟩) := by
  have h0 : k0_off2 t k = ![64 * t.val + k.val] := k0_off2_eq t k
  refine congrArg g (funext fun a => Fin.ext ?_)
  match a with
  | 0 =>
    show k0_off2 t k 0 + 1 * 0 = _
    rw [h0]
    rfl

theorem chunk_value {g : Vec Ideal S2048 .i32} {z : Vec Ideal S2048x2048 .f32} {zz : ℕ → Fin 2048 → ℝ} (hz : IsReal z fun i d => zz i.val d)
    (on : ℕ → Prop) [DecidablePred on] (hg : ∀ i : Fin 2048, hit (g (ix1 i)) ↔ on i.val) (t : Fin k0_t1_loop.trips)
    {s : FVec Ideal S1x64 .f32 × Vec Ideal S64x2048 .f32} {p : Protos} (hpn : ∀ j : Fin 64, s.1 (ix2 0 j) = ((dot (p j) (p j) : ℝ) : EReal)) (hP : IsReal s.2 p) :
    (∀ j : Fin 64, (chunkStep g z t s).1 (ix2 0 j)
        = ((dot (moves (chunkFrames zz t.val) (fun i => on (64 * t.val + i)) p 64 j) (moves (chunkFrames zz t.val) (fun i => on (64 * t.val + i)) p 64 j) : ℝ) : EReal))
      ∧ IsReal (chunkStep g z t s).2 (moves (chunkFrames zz t.val) (fun i => on (64 * t.val + i)) p 64) := by
  have ht : t.val < 32 := lt_of_lt_of_eq t.isLt t1_trips
  have hZ := chunkOf_real hz t
  have hw : ∀ k, hit (flagAt g t k) ↔ on (64 * t.val + k.val) := fun k => by
    have hk : k.val < 64 := lt_of_lt_of_eq k.isLt t2_trips
    rw [flagAt_eq g t k (by omega)]
    exact hg _
  have hend : FrameInv (chunkFrames zz t.val) (fun i => on (64 * t.val + i)) p 64 (chunkEnd g z t s.1 s.2) := by
    unfold chunkEnd
    rw [t2_trips]
    exact inner_inv hZ (fun i => on (64 * t.val + i)) p _ hw (inner_start hZ _ hP hpn) 64 (le_refl _)
  exact ⟨hend.norm, pay34_at hZ hP hend.record⟩

theorem outer_value {g : Vec Ideal S2048 .i32} {z : Vec Ideal S2048x2048 .f32} {zz : ℕ → Fin 2048 → ℝ} (hz : IsReal z fun i d => zz i.val d)
    (on : ℕ → Prop) [DecidablePred on] (hg : ∀ i : Fin 2048, hit (g (ix1 i)) ↔ on i.val)
    {s : FVec Ideal S1x64 .f32 × Vec Ideal S64x2048 .f32} {p : Protos} (hpn : ∀ j : Fin 64, s.1 (ix2 0 j) = ((dot (p j) (p j) : ℝ) : EReal)) (hP : IsReal s.2 p) (n : ℕ) (hn : n ≤ 32) :
    (∀ j : Fin 64, (outer g z s n).1 (ix2 0 j) = ((dot (moves zz on p (64 * n) j) (moves zz on p (64 * n) j) : ℝ) : EReal))
      ∧ IsReal (outer g z s n).2 (moves zz on p (64 * n)) := by
  induction n with
  | zero => exact ⟨hpn, hP⟩
  | succ n ih =>
    have h := ih (by omega)
    have hs : outer g z s (n + 1) = chunkStep g z ⟨n, by rw [t1_trips]; omega⟩ (outer g z s n) := outer_succ g z s ⟨n, by rw [t1_trips]; omega⟩
    rw [hs, show 64 * (n + 1) = 64 * n + 64 by ring, moves_add]
    exact chunk_value hz on hg ⟨n, by rw [t1_trips]; omega⟩ h.1 h.2

theorem pay31_eq (p0 : Vec Ideal S64x2048 .f32) : k0_pay31 (F := Ideal) p0 = p0 := by
  funext i
  idx_vars i
  pointwise [k0_pay31]

theorem diag_norm {P : Vec Ideal S64x2048 .f32} {p : Protos} (hP : IsReal P p) (j : Fin 64) :
    k0_pay44 (F := Ideal) k0_pay30 P (ix2 0 j) = ((dot (p j) (p j) : ℝ) : EReal) := by
  pointwise [k0_pay44, k0_pay30, k0_pay43]
  simp only [hP _, ← EReal.coe_mul, coe_sum]
  refine (sum_pick (fun x => ((∑ i, p x i * p j i : ℝ) : EReal)) (fun x => BitVec.ofNat 32 x.val) (fun _ => rfl) j.val (by have := j.isLt; omega)).trans ?_
  rw [dif_pos j.isLt]; rfl

theorem pay32_eq (P : Vec Ideal S64x2048 .f32) (j : Fin 64) : k0_pay32 (F := Ideal) P (ix2 0 j) = k0_pay44 k0_pay30 P (ix2 0 j) := by
  pointwise [k0_pay32, k0_pay44, k0_pay43]

/-- The prototypes the kernel's loop leaves. -/
theorem protos_value {g : Vec Ideal S2048 .i32} {z : Vec Ideal S2048x2048 .f32} {zz : ℕ → Fin 2048 → ℝ} (hz : IsReal z fun i d => zz i.val d)
    (on : ℕ → Prop) [DecidablePred on] (hg : ∀ i : Fin 2048, hit (g (ix1 i)) ↔ on i.val) {P : Vec Ideal S64x2048 .f32} {p : Protos} (hP : IsReal P p) :
    IsReal (outer g z (k0_pay32 (k0_pay31 P), k0_pay31 P) k0_t1_loop.trips).2 (moves zz on p 2048) := by
  rw [t1_trips, pay31_eq]
  exact (outer_value hz on hg (s := (k0_pay32 P, P)) (fun j => (pay32_eq P j).trans (diag_norm hP j)) hP 32 (le_refl _)).2

end Cert.Proof.KernelIdeal

end
-- ==== Proof.Loss.lean ====
/- The loss in real numbers: the pull of every frame towards the mean of its three nearest prototypes, the push away
   from the moved mean of the anomalies, and the pull expanded into inner products, as the kernel computes it. -/
module

public import proofs.«01_k».proof.Proof.Moves
public import proofs.«01_k».proof.Proof.Consts

@[expose] public section

noncomputable section

namespace Cert.Proof

/-- The squared distances of a frame, as extended reals. -/
def sqDistE (p : Protos) (z : Fin 2048 → ℝ) : Fin 64 → EReal := fun j => ((sqDist p z j : ℝ) : EReal)

/-- The nearest, second nearest and third nearest prototype. -/
def near1 (p : Protos) (z : Fin 2048 → ℝ) : Fin 64 := firstMin (sqDistE p z)
def near2 (p : Protos) (z : Fin 2048 → ℝ) : Fin 64 := firstMin (masked (sqDistE p z) (· = near1 p z))
def near3 (p : Protos) (z : Fin 2048 → ℝ) : Fin 64 := firstMin (masked (sqDistE p z) (fun j => j = near1 p z ∨ j = near2 p z))

theorem near_firstThree (p : Protos) (z : Fin 2048 → ℝ) : FirstThree (sqDistE p z) (near1 p z) (near2 p z) (near3 p z) :=
  ⟨firstMin_spec _, firstMin_spec _, firstMin_spec _⟩

/-- A frame's squared distance from the mean of its three nearest prototypes. -/
def pull (p : Protos) (z : Fin 2048 → ℝ) : ℝ :=
  ∑ d, (z d - (p (near1 p z) d + p (near2 p z) d + p (near3 p z) d) / 3) ^ 2

/-- How far a frame lies inside the unit ball around the mean of the anomalies. -/
def push (m : Fin 2048 → ℝ) (z : Fin 2048 → ℝ) : ℝ := max (1 - Real.sqrt (∑ d, (z d - m d) ^ 2)) 0

/-- How often each prototype is among the three. -/
def threeHot (p : Protos) (z : Fin 2048 → ℝ) (j : Fin 64) : ℝ :=
  (if j = near1 p z then 1 else 0) + (if j = near2 p z then 1 else 0) + (if j = near3 p z then 1 else 0)

theorem sum_threeHot (p : Protos) (z : Fin 2048 → ℝ) (f : Fin 64 → ℝ) :
    ∑ j, threeHot p z j * f j = f (near1 p z) + f (near2 p z) + f (near3 p z) := by
  unfold threeHot
  simp only [add_mul, Finset.sum_add_distrib, ite_mul, one_mul, zero_mul, Finset.sum_ite_eq', Finset.sum_ite_eq, Finset.mem_univ, if_true]

theorem pull_eq (p : Protos) (z : Fin 2048 → ℝ) :
    dot z z - 2 / 3 * ∑ j, threeHot p z j * dot z (p j) + 1 / 9 * ∑ j, threeHot p z j * ∑ i, threeHot p z i * dot (p i) (p j) = pull p z := by
  simp only [sum_threeHot]
  unfold pull dot
  simp only [mul_add, Finset.mul_sum, ← Finset.sum_add_distrib, ← Finset.sum_sub_distrib]
  exact Finset.sum_congr rfl fun d _ => by ring

theorem push_eq (m : Fin 2048 → ℝ) (z : Fin 2048 → ℝ) : dot z z - 2 * dot z m + dot m m = ∑ d, (z d - m d) ^ 2 := by
  unfold dot
  simp only [Finset.mul_sum, ← Finset.sum_add_distrib, ← Finset.sum_sub_distrib]
  exact Finset.sum_congr rfl fun d _ => by ring

/-- The number of anomalies. -/
def count (off : ℕ → Prop) [DecidablePred off] : ℝ := ∑ i : Fin 2048, if off i.val then 1 else 0

/-- The mean of the anomalies. -/
def meanOff (zz : ℕ → Fin 2048 → ℝ) (off : ℕ → Prop) [DecidablePred off] (d : Fin 2048) : ℝ :=
  (∑ i : Fin 2048, if off i.val then zz i.val d else 0) / max (count off) 1

/-- The anomaly mean moved. -/
def newMean (zz : ℕ → Fin 2048 → ℝ) (off : ℕ → Prop) [DecidablePred off] (init : Prop) [Decidable init] (ma : Fin 2048 → ℝ) (d : Fin 2048) : ℝ :=
  if 0 < count off then (if init then 99 / 100 * ma d + 1 / 100 * meanOff zz off d else meanOff zz off d) else ma d

/-- The loss. -/
def lossOf (zz : ℕ → Fin 2048 → ℝ) (on off : ℕ → Prop) [DecidablePred on] [DecidablePred off] (init : Prop) [Decidable init] (p : Protos) (ma : Fin 2048 → ℝ) : ℝ :=
  (∑ i : Fin 2048, pull (moves zz on p 2048) (zz i.val)) / 4194304
    + 1 / 2 * (if init ∨ 0 < count off then (∑ i : Fin 2048, push (newMean zz off init ma) (zz i.val)) / 2048 else 0)

end Cert.Proof

end
-- ==== Proof.KernelIdeal.LossValue.lean ====
/- The kernel's loss loop and its one number, in real numbers. -/
module

public import proofs.«01_k».proof.Proof.KernelIdeal.ChunkValue
public import proofs.«01_k».proof.Proof.Loss

@[expose] public section

set_option maxRecDepth 16384

noncomputable section

namespace Cert.Proof.KernelIdeal

open Cert.KernelIdeal Cert.KernelIdeal.Gen
open Idealize.ShloMosaic Idealize.ShloMosaic.TcCoe

/-- The lane numbers of a block. -/
abbrev lanes : IVec S256x64 32 := iota .tc S256x64 32 [1] iota_S256x64_d1_w32

section Block

variable {P : Vec Ideal S64x2048 .f32} {p : Protos} (hP : IsReal P p) {zb : Vec Ideal S256x2048 .f32} {z : ℕ → Fin 2048 → ℝ} (hz : IsReal zb fun i d => z i.val d)
include hP hz

omit hP in
theorem pay21_at (i : Fin 256) : k0_pay21 (F := Ideal) zb (ix2 i 0) = ((dot (z i.val) (z i.val) : ℝ) : EReal) := by
  pointwise [k0_pay21]
  simp only [hz i, ← EReal.coe_mul, coe_sum]; rfl

theorem pay22_at (i : Fin 256) (j : Fin 64) : k0_pay22 (F := Ideal) P zb (ix2 i j) = ((dot (z i.val) (p j) : ℝ) : EReal) := by
  pointwise [k0_pay22]
  simp only [hz i, hP j, ← EReal.coe_mul, coe_sum]; rfl

theorem pay23_at (i : Fin 256) (j : Fin 64) : k0_pay23 (F := Ideal) P (k0_pay44 k0_pay30 P) zb (ix2 i j) = sqDistE p (z i.val) j := by
  pointwise [k0_pay23]
  rw [pay21_at hz, pay22_at hP hz, diag_norm hP, two_f32, ← EReal.coe_mul, ← EReal.coe_add, ← EReal.coe_sub]
  unfold sqDistE
  rw [sqDist_eq]
  congr 1; ring

theorem pay24_at (i : Fin 256) (j : Fin 64) :
    k0_pay24 (F := Ideal) P (k0_pay44 k0_pay30 P) lanes zb (ix2 i j) = ((if j = near1 p (z i.val) then 1 else 0 : ℝ) : EReal) := by
  pointwise [k0_pay24]
  have hf : ∀ x : Fin 64, k0_pay23 (F := Ideal) P (k0_pay44 k0_pay30 P) zb (ix2 i x) = sqDistE p (z i.val) x := pay23_at hP hz i
  simp only [hf]
  rw [inf_f32, fold_lane _ (fun x => BitVec.ofNat 32 x.val) (fun _ => rfl) (near_firstThree p (z i.val)).one, hot_eq]
  simp only [ofNat_inj (a := j.val) (b := (near1 p (z i.val)).val) (by omega) (by omega), ← Fin.ext_iff]

theorem pay25_at (i : Fin 256) (j : Fin 64) :
    k0_pay25 (F := Ideal) P (k0_pay44 k0_pay30 P) lanes zb (ix2 i j) = masked (sqDistE p (z i.val)) (· = near1 p (z i.val)) j := by
  pointwise [k0_pay25]
  rw [pay24_at hP hz, pay23_at hP hz, named_top]
  unfold masked
  by_cases h : j = near1 p (z i.val)
  · rw [if_pos h, if_pos h, if_pos]; exact EReal.coe_lt_coe_iff.2 one_pos
  · rw [if_neg h, if_neg h, if_neg]; exact lt_irrefl _

theorem pay26_at (i : Fin 256) (j : Fin 64) :
    k0_pay26 (F := Ideal) P (k0_pay44 k0_pay30 P) lanes zb (ix2 i j) = ((if j = near2 p (z i.val) then 1 else 0 : ℝ) : EReal) := by
  pointwise [k0_pay26]
  have hf : ∀ x : Fin 64, k0_pay25 (F := Ideal) P (k0_pay44 k0_pay30 P) lanes zb (ix2 i x) = masked (sqDistE p (z i.val)) (· = near1 p (z i.val)) x := pay25_at hP hz i
  simp only [hf]
  rw [inf_f32, fold_lane _ (fun x => BitVec.ofNat 32 x.val) (fun _ => rfl) (near_firstThree p (z i.val)).two, hot_eq]
  simp only [ofNat_inj (a := j.val) (b := (near2 p (z i.val)).val) (by omega) (by omega), ← Fin.ext_iff]

theorem pay27_at (i : Fin 256) (j : Fin 64) :
    k0_pay27 (F := Ideal) P (k0_pay44 k0_pay30 P) lanes zb (ix2 i j)
      = (((if j = near1 p (z i.val) then 1 else 0) + (if j = near2 p (z i.val) then 1 else 0) : ℝ) : EReal) := by
  pointwise [k0_pay27]
  rw [pay24_at hP hz, pay26_at hP hz, ← EReal.coe_add]

omit hz in
theorem pay43_at (i j : Fin 64) : k0_pay43 (F := Ideal) P (ix2 i j) = ((dot (p i) (p j) : ℝ) : EReal) := by
  pointwise [k0_pay43]
  simp only [hP i, hP j, ← EReal.coe_mul, coe_sum]; rfl

theorem pay28_value (a : ℝ) :
    k0_pay28 (F := Ideal) (k0_pay43 P) lanes (a : EReal) (k0_pay21 zb) (k0_pay22 P zb) (k0_pay25 P (k0_pay44 k0_pay30 P) lanes zb)
      (k0_pay26 P (k0_pay44 k0_pay30 P) lanes zb) (k0_pay27 P (k0_pay44 k0_pay30 P) lanes zb) (Scalar.ofBits .f32 0x00000000#32)
      = ((a + ∑ i : Fin 256, pull p (z i.val) : ℝ) : EReal) := by
  pointwise [k0_pay28]
  have hm : ∀ (x : Fin 256) (y : Fin 64), (if (0 : EReal) < k0_pay26 (F := Ideal) P (k0_pay44 k0_pay30 P) lanes zb (ix2 x y) then (⊤ : EReal)
      else k0_pay25 (F := Ideal) P (k0_pay44 k0_pay30 P) lanes zb (ix2 x y)) = masked (sqDistE p (z x.val)) (fun j => j = near1 p (z x.val) ∨ j = near2 p (z x.val)) y := fun x y => by
    rw [pay26_at hP hz, pay25_at hP hz]
    unfold masked
    by_cases h : y = near2 p (z x.val)
    · rw [if_pos h, if_pos (Or.inr h), if_pos]; exact EReal.coe_lt_coe_iff.2 one_pos
    · rw [if_neg h, if_neg]
      · by_cases h' : y = near1 p (z x.val)
        · rw [if_pos h', if_pos (Or.inl h')]
        · rw [if_neg h', if_neg (fun hc => hc.elim h' h)]
      · exact lt_irrefl _
  have hf : ∀ x : Fin 256, Finset.fold IntOp.minsi 2147483647#32 (fun y => if masked (sqDistE p (z x.val)) (fun j => j = near1 p (z x.val) ∨ j = near2 p (z x.val)) y
      = Finset.fold min ⊤ (fun y => masked (sqDistE p (z x.val)) (fun j => j = near1 p (z x.val) ∨ j = near2 p (z x.val)) y) Finset.univ then BitVec.ofNat 32 y.val else 64#32) Finset.univ
      = BitVec.ofNat 32 (near3 p (z x.val)).val := fun x =>
    fold_lane _ (fun x => BitVec.ofNat 32 x.val) (fun _ => rfl) (near_firstThree p (z x.val)).three
  have h3 : ∀ (x : Fin 256) (y : Fin 64), (if BitVec.ofNat 32 y.val = BitVec.ofNat 32 (near3 p (z x.val)).val then 1 else 0 : ℝ) = if y = near3 p (z x.val) then 1 else 0 := fun x y => by
    simp only [ofNat_inj (a := y.val) (b := (near3 p (z x.val)).val) (by omega) (by omega), ← Fin.ext_iff]
  have h27 := pay27_at hP hz
  simp only [named_top, inf_f32, hm, hf, hot_eq, h3, h27, pay22_at hP hz, pay21_at hz, pay43_at hP, named_two_thirds, named_ninth, ← EReal.coe_add, ← EReal.coe_mul, coe_sum, ← EReal.coe_sub]
  have hu : ∀ f : Fin 256 → Fin 1 → ℝ, ∑ x, ∑ y, f x y = ∑ x, f x 0 := fun f => by simp
  congr 2
  first
    | (rw [hu]; exact Finset.sum_congr rfl fun i _ => pull_eq p (z i.val))
    | exact Finset.sum_congr rfl fun i _ => (by simpa using pull_eq p (z i.val))

end Block

end Cert.Proof.KernelIdeal

end
-- ==== Proof.KernelIdeal.OutValue.lean ====
/- The kernel's running sums, its mean of the anomalies and its one number, in real numbers. -/
module

public import proofs.«01_k».proof.Proof.KernelIdeal.LossValue

@[expose] public section

set_option maxRecDepth 16384

noncomputable section

namespace Cert.Proof.KernelIdeal

open Cert.KernelIdeal Cert.KernelIdeal.Gen
open Idealize.ShloMosaic Idealize.ShloMosaic.TcCoe

theorem push_term (m z : Fin 2048 → ℝ) :
    max ((1 : EReal) - Ideal.sqrt (max (((dot z z : ℝ) : EReal) - ((2 * dot z m : ℝ) : EReal) + ((dot m m : ℝ) : EReal)) 0)) 0 = ((push m z : ℝ) : EReal) := by
  rw [coe_one, coe_zero, ← EReal.coe_sub, ← EReal.coe_add, push_eq, coe_max, max_eq_left (Finset.sum_nonneg fun d _ => sq_nonneg _),
    coe_sqrt (Finset.sum_nonneg fun d _ => sq_nonneg _), ← EReal.coe_sub, coe_max]
  rfl

theorem pay1_value {zb : Vec Ideal S256x2048 .f32} {z : ℕ → Fin 2048 → ℝ} (hz : IsReal zb fun i d => z i.val d) {nma : FVec Ideal S1x2048 .f32} {m : Fin 2048 → ℝ}
    (hm : ∀ d : Fin 2048, nma (ix2 0 d) = ((m d : ℝ) : EReal)) (a : ℝ) :
    k0_pay1 (F := Ideal) (a : EReal) (k0_pay29 nma ((dot m m : ℝ) : EReal) zb (k0_pay21 zb)) = ((a + ∑ i : Fin 256, push m (z i.val) : ℝ) : EReal) := by
  pointwise [k0_pay1, k0_pay29]
  have hd : ∀ i : Fin 256, ∑ x, ((z i.val x : ℝ) : EReal) * ((m x : ℝ) : EReal) = ((dot (z i.val) m : ℝ) : EReal) := fun i => by
    simp only [← EReal.coe_mul, coe_sum]; rfl
  have hu : ∀ f : Fin 256 → Fin 1 → EReal, ∑ x, ∑ y, f x y = ∑ x, f x 0 := fun f => by simp
  rw [EReal.coe_add, ← coe_sum]
  refine congrArg ((a : EReal) + ·) ?_
  rw [hu]
  refine Finset.sum_congr rfl fun i _ => ?_
  have h21 := pay21_at hz i
  have h0 : ∀ x : Fin 2048, zb (ix2 i x) = ((z i.val x : ℝ) : EReal) := fun x => hz i x
  simp only [h21, h0, hm, hd, two_f32]
  rw [← EReal.coe_mul]
  exact push_term m (z i.val)

theorem blockOf_real {z : Vec Ideal S2048x2048 .f32} {zz : ℕ → Fin 2048 → ℝ} (hz : IsReal z fun i d => zz i.val d) (t : Fin k0_t3_loop.trips) :
    IsReal (VecWindow.window z (k0_off4 t) S256x2048.size (k0_off4_inb t) : Vec Ideal S256x2048 .f32) fun i d => zz (256 * t.val + i.val) d := by
  intro i d
  have ht : t.val < 8 := lt_of_lt_of_eq t.isLt t3_trips
  have hi := i.isLt
  have h0 : k0_off4 t = ![256 * t.val, 0] := k0_off4_eq t
  have e : (Rect.unit (s := S2048x2048) (k0_off4 t) S256x2048.size (k0_off4_inb t)).emb (ix2 i d) = ix2 (⟨256 * t.val + i.val, by omega⟩ : Fin 2048) d := by
    funext a
    refine Fin.ext ?_
    show k0_off4 t a + 1 * (ix2 i d a).val = _
    rw [h0]
    match a with
    | 0 => show 256 * t.val + 1 * i.val = 256 * t.val + i.val; omega
    | 1 => show 0 + 1 * d.val = d.val; omega
  show z ((Rect.unit (s := S2048x2048) (k0_off4 t) S256x2048.size (k0_off4_inb t)).emb (ix2 i d)) = _
  rw [e]
  exact hz _ d

theorem sum_block (f : ℕ → ℝ) (n : ℕ) :
    ∑ i ∈ Finset.range (256 * (n + 1)), f i = ∑ i ∈ Finset.range (256 * n), f i + ∑ i : Fin 256, f (256 * n + i.val) := by
  rw [show 256 * (n + 1) = 256 * n + 256 by ring, Finset.sum_range_add, Finset.sum_range (fun i => f (256 * n + i))]

theorem loss_value {nma : FVec Ideal S1x2048 .f32} {m : Fin 2048 → ℝ} (hm : ∀ d : Fin 2048, nma (ix2 0 d) = ((m d : ℝ) : EReal)) {P : Vec Ideal S64x2048 .f32} {p : Protos}
    (hP : IsReal P p) {z : Vec Ideal S2048x2048 .f32} {zz : ℕ → Fin 2048 → ℝ} (hz : IsReal z fun i d => zz i.val d) (n : ℕ) (hn : n ≤ 8) :
    loss (F := Ideal) nma ((dot m m : ℝ) : EReal) P z n
      = (((∑ i ∈ Finset.range (256 * n), pull p (zz i) : ℝ) : EReal), ((∑ i ∈ Finset.range (256 * n), push m (zz i) : ℝ) : EReal)) := by
  induction n with
  | zero =>
    have h0 : (Scalar.ofBits .f32 0x00000000#32 : Ideal .f32) = ((0 : ℝ) : EReal) := Ideal.ofBits_zero_f32
    show ((Scalar.ofBits .f32 0x00000000#32 : Ideal .f32), (Scalar.ofBits .f32 0x00000000#32 : Ideal .f32)) = _
    rw [h0, Nat.mul_zero, Finset.range_zero, Finset.sum_empty, Finset.sum_empty]
  | succ n ih =>
    have hs : loss (F := Ideal) nma ((dot m m : ℝ) : EReal) P z (n + 1) = lossStep nma ((dot m m : ℝ) : EReal) P z ⟨n, by rw [t3_trips]; omega⟩ (loss nma ((dot m m : ℝ) : EReal) P z n) :=
      loss_succ nma _ P z ⟨n, by rw [t3_trips]; omega⟩
    have hb := blockOf_real hz ⟨n, by rw [t3_trips]; omega⟩
    rw [hs, ih (by omega), sum_block (fun i => pull p (zz i)), sum_block (fun i => push m (zz i))]
    exact Prod.ext (pay28_value hP (z := fun i => zz (256 * n + i)) hb _) (pay1_value (z := fun i => zz (256 * n + i)) hb hm _)

theorem pay38_at (w : BitVec 32) (init : Prop) [Decidable init] (h : 0 < w.toInt ↔ init) : k0_pay38 (F := Ideal) w = ((if init then 1 else 0 : ℝ) : EReal) := by
  pointwise [k0_pay38]
  unfold Scalar.cmpi IntOp.cmpi
  rw [Scalar.select_ofBool]
  have h0 : (0#32 : BitVec 32).toInt = 0 := by decide
  simp only [BitVec.slt, decide_eq_true_eq, h0, h]
  split <;> rfl

section Mean

variable {ga : Vec Ideal S1x2048 .f32} {off : ℕ → Prop} [DecidablePred off] (hga : ∀ i : Fin 2048, ga (ix2 0 i) = ((if off i.val then 1 else 0 : ℝ) : EReal))
include hga

theorem pay36_value : k0_pay36 (F := Ideal) ga = ((count off : ℝ) : EReal) := by
  pointwise [k0_pay36, k0_pay35]
  simp only [hga, coe_sum]
  unfold count
  congr 1
  first | rfl | simp

theorem pay37_at {z : Vec Ideal S2048x2048 .f32} {zz : ℕ → Fin 2048 → ℝ} (hz : IsReal z fun i d => zz i.val d) (d : Fin 2048) :
    k0_pay37 (F := Ideal) ga z (ix2 0 d) = ((meanOff zz off d : ℝ) : EReal) := by
  have hpos : max (count off) 1 ≠ 0 := ne_of_gt (lt_of_lt_of_le one_pos (le_max_right _ _))
  have hz' : ∀ x : Fin 2048, z (ix2 x d) = ((zz x.val d : ℝ) : EReal) := fun x => hz x d
  pointwise [k0_pay37, k0_pay35]
  simp only [hga, pay36_value hga, hz', coe_one, ← EReal.coe_mul, coe_sum, coe_max]
  rw [coe_div _ hpos]
  unfold meanOff
  simp only [ite_mul, one_mul, zero_mul]

theorem pay39_value : k0_pay39 (F := Ideal) (k0_pay36 ga) = ((if 0 < count off then 1 else 0 : ℝ) : EReal) := by
  pointwise [k0_pay39]
  rw [pay36_value hga]
  by_cases h : 0 < count off
  · rw [if_pos h, if_pos (EReal.coe_pos.2 h)]; rfl
  · rw [if_neg h, if_neg (fun hc => h (EReal.coe_pos.1 hc))]; rfl

theorem pay40_at {z : Vec Ideal S2048x2048 .f32} {zz : ℕ → Fin 2048 → ℝ} (hz : IsReal z fun i d => zz i.val d) {ma : Vec Ideal S1x2048 .f32} {a : Fin 2048 → ℝ}
    (hma : ∀ d : Fin 2048, ma (ix2 0 d) = ((a d : ℝ) : EReal)) (w : BitVec 32) (init : Prop) [Decidable init] (hw : 0 < w.toInt ↔ init) (d : Fin 2048) :
    k0_pay40 (F := Ideal) (k0_pay36 ga) (k0_pay37 ga z) ma w (ix2 0 d) = ((newMean zz off init a d : ℝ) : EReal) := by
  pointwise [k0_pay40]
  rw [pay37_at hga hz, pay38_at w init hw, pay39_value hga, hma, named_rho, named_hundredth]
  simp only [coe_one, ← EReal.coe_mul, ← EReal.coe_add, ← EReal.coe_sub]
  unfold newMean
  congr 1
  split <;> split <;> ring

theorem pay41_value {z : Vec Ideal S2048x2048 .f32} {zz : ℕ → Fin 2048 → ℝ} (hz : IsReal z fun i d => zz i.val d) {ma : Vec Ideal S1x2048 .f32} {a : Fin 2048 → ℝ}
    (hma : ∀ d : Fin 2048, ma (ix2 0 d) = ((a d : ℝ) : EReal)) (w : BitVec 32) (init : Prop) [Decidable init] (hw : 0 < w.toInt ↔ init) :
    k0_pay41 (F := Ideal) (k0_pay36 ga) (k0_pay37 ga z) ma w = ((dot (newMean zz off init a) (newMean zz off init a) : ℝ) : EReal) := by
  pointwise [k0_pay41]
  simp only [pay40_at hga hz hma w init hw, ← EReal.coe_mul, coe_sum]
  unfold dot
  congr 1
  first | rfl | simp

theorem pay42_value (w : BitVec 32) (init : Prop) [Decidable init] (hw : 0 < w.toInt ↔ init) :
    k0_pay42 (F := Ideal) (k0_pay36 ga) w = ((if init ∨ 0 < count off then 1 else 0 : ℝ) : EReal) := by
  pointwise [k0_pay42]
  rw [pay38_at w init hw, pay39_value hga, coe_max]
  congr 1
  by_cases h1 : init <;> by_cases h2 : 0 < count off <;> simp [h1, h2]

end Mean

theorem pay2_value (f a b : ℝ) : k0_pay2 (F := Ideal) (f : EReal) (a : EReal) (b : EReal) = ((a / 4194304 + 1 / 2 * (f * (b / 2048)) : ℝ) : EReal) := by
  pointwise [k0_pay2]
  rw [n4194304_f32, n2048_f32, half_f32, coe_div _ (by norm_num), coe_div _ (by norm_num)]
  simp only [coe_one, ← EReal.coe_mul, ← EReal.coe_add, one_mul]

/-- The kernel's one number is the loss. -/
theorem kernelOut_value {g : Vec Ideal S2048 .i32} {init : Vec Ideal S1 .i32} {z : Vec Ideal S2048x2048 .f32} {ga : Vec Ideal S1x2048 .f32} {P : Vec Ideal S64x2048 .f32}
    {ma : Vec Ideal S1x2048 .f32} {zz : ℕ → Fin 2048 → ℝ} {p : Protos} {a : Fin 2048 → ℝ} (on off : ℕ → Prop) [DecidablePred on] [DecidablePred off] (ini : Prop) [Decidable ini]
    (hz : IsReal z fun i d => zz i.val d) (hP : IsReal P p) (hma : ∀ d : Fin 2048, ma (ix2 0 d) = ((a d : ℝ) : EReal))
    (hg : ∀ i : Fin 2048, hit (g (ix1 i)) ↔ on i.val) (hga : ∀ i : Fin 2048, ga (ix2 0 i) = ((if off i.val then 1 else 0 : ℝ) : EReal))
    (hw : 0 < (init (ix1 0) : BitVec 32).toInt ↔ ini) :
    kernelOut (F := Ideal) g init z ga P ma = ((lossOf zz on off ini p a : ℝ) : EReal) := by
  have hf : (Shape.Idx.first (numel1_S1.symm ▸ Nat.one_pos) : S1.Idx) = ix1 0 := by
    funext i; match i with | 0 => exact Subsingleton.elim (α := Fin 1) _ _
  unfold kernelOut
  dsimp only
  rw [hf, pay41_value hga hz hma _ ini hw, pay42_value hga _ ini hw, loss_value (pay40_at hga hz hma _ ini hw) (protos_value hz on hg hP) hz _ (le_of_eq t3_trips), t3_trips]
  rw [pay2_value]
  unfold lossOf
  rw [Finset.sum_range, Finset.sum_range]
  congr 3
  split <;> ring

end Cert.Proof.KernelIdeal

end
-- ==== Proof.KernelIdeal.HostValue.lean ====
/- What the host lines before the kernel leave: the anomalies' indicator, the moved mean and the flag as the kernel reads them. -/
module

public import proofs.«01_k».proof.Proof.KernelIdeal.Run
public import proofs.«01_k».proof.Proof.KernelIdeal.OutValue
public import Idealize.ShloMosaic.Lib.StableHlo.RunRead

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic Idealize.ShloMosaic.StableHlo

section host

variable {F : FTy → Type} [FloatOps F] [Named F] (m : (b : Loc nD τ sig) → Buf (Elt F) b) (c : Dev nD)

theorem host_init : V m c main_call0_v1 = (shapeCast S1 (extui 32 (m ((c.tc : Thread nD τ).loc main_arg5) : IVec S_ 1) natLt_1_32 : IVec S_ 32) shapeCasts_S_S1 : IVec S1 32) := by
  unfold V V0
  simp only [List.flatten_cons, List.flatten_nil, List.append_nil]
  after_reads_simp
  rfl

theorem host_off : V m c main_call0_v5 = (shapeCast S1x2048 (uitofp .f32 (cmpi .eq (m ((c.tc : Thread nD τ).loc main_arg1) : IVec S2048 32) (broadcastInDim S2048 ![] bcast_S_S2048 (constantI S_ 32 0#32))) : FVec F S2048 .f32) shapeCasts_S2048_S1x2048 : FVec F S1x2048 .f32) := by
  unfold V V0
  simp only [List.flatten_cons, List.flatten_nil, List.append_nil]
  after_reads_simp
  rfl

theorem host_mean : V m c main_call0_v6 = (shapeCast S1x2048 (m ((c.tc : Thread nD τ).loc main_arg4) : FVec F S2048 .f32) shapeCasts_S2048_S1x2048 : FVec F S1x2048 .f32) := by
  unfold V V0
  simp only [List.flatten_cons, List.flatten_nil, List.append_nil]
  after_reads_simp
  rfl

end host

/-- The flag, as the kernel reads it. -/
theorem init_at (w : IVec S_ 1) : 0 < ((shapeCast S1 (extui 32 w natLt_1_32 : IVec S_ 32) shapeCasts_S_S1 : IVec S1 32) (ix1 0) : BitVec 32).toInt ↔ (w ix0 : BitVec 1) = 1#1 := by
  pointwise
  generalize w ix0 = b
  revert b
  decide

/-- The anomalies' indicator. -/
theorem off_at (g : IVec S2048 32) (i : Fin 2048) :
    (shapeCast S1x2048 (uitofp .f32 (cmpi .eq g (broadcastInDim S2048 ![] bcast_S_S2048 (constantI S_ 32 0#32))) : FVec Ideal S2048 .f32) shapeCasts_S2048_S1x2048 : FVec Ideal S1x2048 .f32) (ix2 0 i)
      = ((if (g (ix1 i) : BitVec 32) = 0#32 then 1 else 0 : ℝ) : EReal) := by
  pointwise
  by_cases h : (g (ix1 i) : BitVec 32) = 0#32
  · rw [if_pos h, h]
    show (((1 : ℕ) : ℝ) : EReal) = _
    rw [Nat.cast_one]
  · rw [if_neg h]
    have hb : ((g (ix1 i) : BitVec 32) == 0#32) = false := by simpa using h
    have hc : IntOp.cmpi CmpIPredicate.eq (g (ix1 i)) 0#32 = 0#1 := by
      unfold IntOp.cmpi
      simp only [hb]; rfl
    rw [hc]
    show (((0 : ℕ) : ℝ) : EReal) = _
    rw [Nat.cast_zero]

theorem mean_row_at (a : FVec Ideal S2048 .f32) (i : Fin 2048) : (shapeCast S1x2048 a shapeCasts_S2048_S1x2048 : FVec Ideal S1x2048 .f32) (ix2 0 i) = a (ix1 i) := by
  pointwise

theorem hit_iff (w : BitVec 32) : hit w ↔ 0 < w.toInt := by
  unfold hit
  simp only [Scalar.cmpi, Scalar.extui, IntOp.cmpi, BitVec.slt, BitVec.toInt_zero]
  by_cases h : 0 < w.toInt <;> simp [h]

end Cert.Proof.KernelIdeal

end
-- ==== Proof.RefTerms.lean ====
/- The reference's program as a few plain functions of its arguments: the loop's step on the prototypes, and the loss of
   the prototypes the loop leaves. Each is the program's own sequence of operations, cut where the mathematics has a name. -/
module

public import proofs.«01_k».proof.Proof.Gen.ReferenceIdeal.Run
public import Idealize.ShloMosaic.Lib.Pointwise

@[expose] public section

set_option maxRecDepth 16384

noncomputable section

namespace Cert.Proof.ReferenceIdeal

open Cert.ReferenceIdeal Cert.ReferenceIdeal.Gen Cert.ReferenceIdeal.Value
open Idealize.ShloMosaic Idealize.ShloMosaic.TcCoe Idealize.SL.Sem

variable {F : FTy → Type} [FloatOps F]

/-- The number of anomalies, as a word. -/
def cntW (g : Vec F S2048 .i32) : IVec S_ 32 :=
  Host.reduce IntOp.addi (extui 32 (cmpi .eq g (broadcastInDim S2048 ![] bcast_S_S2048 (constantI S_ 32 0#32))) natLt_1_32) (constantI S_ 32 0#32) reducesTo_S2048_S_d0 h_S_

/-- The mean of the anomalies. -/
def meanV (z : Vec F S2048x2048 .f32) (g : Vec F S2048 .i32) : FVec F S2048 .f32 :=
  Host.divf (Host.reduceAdd (select (broadcastInDim S2048x2048 ![0, 1] bcast_S2048x1_S2048x2048_0_1 (broadcastInDim S2048x1 ![0] bcast_S2048_S2048x1_0 (cmpi .eq g (broadcastInDim S2048 ![] bcast_S_S2048 (constantI S_ 32 0#32))))) z (broadcastInDim S2048x2048 ![] bcast_S_S2048x2048 (constant S_ .f32 0x00000000#32))) (constant S_ .f32 0x00000000#32) reducesTo_S2048x2048_S2048_d0 h_S_) (broadcastInDim S2048 ![] bcast_S_S2048 (sitofp .f32 (maxsi (cntW g) (constantI S_ 32 1#32))))

/-- The moved mean. -/
def newMeanV (z : Vec F S2048x2048 .f32) (g : Vec F S2048 .i32) (ma : Vec F S2048 .f32) (ini : Vec F S_ .i1) : FVec F S2048 .f32 :=
  select (broadcastInDim S2048 ![] bcast_S_S2048 (cmpi .sgt (cntW g) (constantI S_ 32 0#32))) (select (broadcastInDim S2048 ![] bcast_S_S2048 ini) (addf (mulf (broadcastInDim S2048 ![] bcast_S_S2048 (Host.divf (constant S_ .f32 0x42C60000#32) (constant S_ .f32 0x42C80000#32))) ma) (mulf (broadcastInDim S2048 ![] bcast_S_S2048 (subf (constant S_ .f32 0x3F800000#32) (Host.divf (constant S_ .f32 0x42C60000#32) (constant S_ .f32 0x42C80000#32)))) (meanV z g))) (meanV z g)) ma

/-- The negated distances of every frame from every prototype. -/
def rankV (z : Vec F S2048x2048 .f32) (p : Vec F S64x2048 .f32) : FVec F S2048x64 .f32 :=
  Host.negf (Host.sqrt (maximumf (subf (addf (broadcastInDim S2048x64 ![0, 1] bcast_S2048x1_S2048x64_0_1 (broadcastInDim S2048x1 ![0] bcast_S2048_S2048x1_0 (Host.reduceAdd (mulf z z) (constant S_ .f32 0x00000000#32) reducesTo_S2048x2048_S2048_d1 h_S_))) (broadcastInDim S2048x64 ![0, 1] bcast_S1x64_S2048x64_0_1 (broadcastInDim S1x64 ![1] bcast_S64_S1x64_1 (Host.reduceAdd (mulf p p) (constant S_ .f32 0x00000000#32) reducesTo_S64x2048_S64_d1 h_S_)))) (mulf (broadcastInDim S2048x64 ![] bcast_S_S2048x64 (constant S_ .f32 0x40000000#32)) (Host.dotGeneral dot_S2048x2048_S2048x64_S2048x64_1_0_0_1_n_n none z (transpose S2048x64 [1, 0] p transposes_S64x2048_S2048x64_1_0)))) (broadcastInDim S2048x64 ![] bcast_S_S2048x64 (constant S_ .f32 0x00000000#32))))

/-- The three nearest prototypes of every frame. -/
def threeW (z : Vec F S2048x2048 .f32) (p : Vec F S64x2048 .f32) : IVec S2048x3 32 :=
  (Host.topK S2048x3 1 (FloatOps.cmpfTotal .gt) (rankV z p) sliceFits_S2048x64_S2048x3).2

/-- Their mean. -/
def barV (z : Vec F S2048x2048 .f32) (p : Vec F S64x2048 .f32) : FVec F S2048x2048 .f32 :=
  Host.divf (Host.reduceAdd (Host.gather gather_S64x2048_S2048x3x1_S2048x3x2048_2_0_n_n_0_2_12048 p (broadcastInDim S2048x3x1 ![0, 1] bcast_S2048x3_S2048x3x1_0_1 (threeW z p))) (constant S_ .f32 0x00000000#32) reducesTo_S2048x3x2048_S2048x2048_d1 h_S_) (broadcastInDim S2048x2048 ![] bcast_S_S2048x2048 (constant S_ .f32 0x40400000#32))

/-- The pull. -/
def pullV (z : Vec F S2048x2048 .f32) (p : Vec F S64x2048 .f32) : FVec F S_ .f32 :=
  Host.divf (Host.reduceAdd (mulf (subf z (barV z p)) (subf z (barV z p))) (constant S_ .f32 0x00000000#32) reducesTo_S2048x2048_S_d0_1 h_S_) (constant S_ .f32 0x4A800000#32)

/-- The distances from the moved mean. -/
def distV (z : Vec F S2048x2048 .f32) (g : Vec F S2048 .i32) (ma : Vec F S2048 .f32) (ini : Vec F S_ .i1) : FVec F S2048 .f32 :=
  Host.sqrt (Host.reduceAdd (mulf (subf z (broadcastInDim S2048x2048 ![0, 1] bcast_S1x2048_S2048x2048_0_1 (broadcastInDim S1x2048 ![1] bcast_S2048_S1x2048_1 (newMeanV z g ma ini)))) (subf z (broadcastInDim S2048x2048 ![0, 1] bcast_S1x2048_S2048x2048_0_1 (broadcastInDim S1x2048 ![1] bcast_S2048_S1x2048_1 (newMeanV z g ma ini))))) (constant S_ .f32 0x00000000#32) reducesTo_S2048x2048_S2048_d1 h_S_)

/-- The push. -/
def pushV (z : Vec F S2048x2048 .f32) (g : Vec F S2048 .i32) (ma : Vec F S2048 .f32) (ini : Vec F S_ .i1) : FVec F S_ .f32 :=
  Host.divf (Host.reduceAdd (maximumf (subf (broadcastInDim S2048 ![] bcast_S_S2048 (constant S_ .f32 0x3F800000#32)) (distV z g ma ini)) (broadcastInDim S2048 ![] bcast_S_S2048 (constant S_ .f32 0x00000000#32))) (constant S_ .f32 0x00000000#32) reducesTo_S2048_S_d0 h_S_) (constant S_ .f32 0x45000000#32)

/-- The loss. -/
def outV (z : Vec F S2048x2048 .f32) (g : Vec F S2048 .i32) (p : Vec F S64x2048 .f32) (ma : Vec F S2048 .f32) (ini : Vec F S_ .i1) : FVec F S_ .f32 :=
  addf (mulf (constant S_ .f32 0x3F800000#32) (pullV z p)) (mulf (constant S_ .f32 0x3F000000#32) (select (ori ini (cmpi .sgt (cntW g) (constantI S_ 32 0#32))) (pushV z g ma ini) (constant S_ .f32 0x00000000#32)))

theorem out_eq (V : Valuation τ sig (Elt F)) : out_main_v64 V
    = outV (V (Proc.devRef .tc main_arg0)) (V (Proc.devRef .tc main_arg1)) (V (Proc.devRef .tc main_v1_4)) (V (Proc.devRef .tc main_arg4)) (V (Proc.devRef .tc main_arg5)) := rfl

/-- The frame the loop is at. -/
def frameV (z : Vec F S2048x2048 .f32) (n : Vec F S_ .i32) : FVec F S2048 .f32 :=
  shapeCast S2048 (Host.dynamicSlice S1x2048 z (fun k => ((![n, constantI S_ 32 0#32] : Fin 2 → IVec S_ 32) k (Shape.Idx.first h_S_)).toInt) sliceFits_S2048x2048_S1x2048) shapeCasts_S1x2048_S2048

/-- The negated distances of the frame from the prototypes. -/
def negDistV (z : Vec F S2048x2048 .f32) (n : Vec F S_ .i32) (p : Vec F S64x2048 .f32) : FVec F S64 .f32 :=
  Host.negf (Host.sqrt (Host.reduceAdd (mulf (subf p (broadcastInDim S64x2048 ![0, 1] bcast_S1x2048_S64x2048_0_1 (broadcastInDim S1x2048 ![1] bcast_S2048_S1x2048_1 (frameV z n)))) (subf p (broadcastInDim S64x2048 ![0, 1] bcast_S1x2048_S64x2048_0_1 (broadcastInDim S1x2048 ![1] bcast_S2048_S1x2048_1 (frameV z n))))) (constant S_ .f32 0x00000000#32) reducesTo_S64x2048_S64_d1 h_S_))

/-- The nearest prototype, as a word. -/
def nearW (z : Vec F S2048x2048 .f32) (n : Vec F S_ .i32) (p : Vec F S64x2048 .f32) : IVec S_ 32 :=
  shapeCast S_ ((Host.topK S1 0 (FloatOps.cmpfTotal .gt) (negDistV z n p) sliceFits_S64_S1).2) shapeCasts_S1_S_

/-- The same, wrapped if negative. -/
def nearWrap (z : Vec F S2048x2048 .f32) (n : Vec F S_ .i32) (p : Vec F S64x2048 .f32) : IVec S_ 32 :=
  select (cmpi .slt (nearW z n p) (constantI S_ 32 0#32)) (addi (nearW z n p) (constantI S_ 32 64#32)) (nearW z n p)

/-- The nearest prototype's row. -/
def nearRow (z : Vec F S2048x2048 .f32) (n : Vec F S_ .i32) (p : Vec F S64x2048 .f32) : FVec F S2048 .f32 :=
  shapeCast S2048 (Host.dynamicSlice S1x2048 p (fun k => ((![nearWrap z n p, select (cmpi .slt (constantI S_ 32 0#32) (constantI S_ 32 0#32)) (addi (constantI S_ 32 0#32) (constantI S_ 32 2048#32)) (constantI S_ 32 0#32)] : Fin 2 → IVec S_ 32) k (Shape.Idx.first h_S_)).toInt) sliceFits_S64x2048_S1x2048) shapeCasts_S1x2048_S2048

/-- The frame's flag. -/
def flagV (g : Vec F S2048 .i32) (n : Vec F S_ .i32) : IVec S_ 32 :=
  shapeCast S_ (Host.dynamicSlice S1 g (fun k => ((![n] : Fin 1 → IVec S_ 32) k (Shape.Idx.first h_S_)).toInt) sliceFits_S2048_S1) shapeCasts_S1_S_

/-- The row to write back. -/
def newRow (z : Vec F S2048x2048 .f32) (g : Vec F S2048 .i32) (mu : Vec F S_ .f32) (n : Vec F S_ .i32) (p : Vec F S64x2048 .f32) : FVec F S2048 .f32 :=
  select (broadcastInDim S2048 ![] bcast_S_S2048 (cmpi .sgt (flagV g n) (constantI S_ 32 0#32)))
    (addf (mulf (broadcastInDim S2048 ![] bcast_S_S2048 mu) (nearRow z n p)) (mulf (broadcastInDim S2048 ![] bcast_S_S2048 (subf (constant S_ .f32 0x3F800000#32) mu)) (frameV z n)))
    (nearRow z n p)

/-- One trip of the loop on the prototypes. -/
def stepV (z : Vec F S2048x2048 .f32) (g : Vec F S2048 .i32) (mu : Vec F S_ .f32) (n : Vec F S_ .i32) (p : Vec F S64x2048 .f32) : FVec F S64x2048 .f32 :=
  Host.scatter scatter_S64x2048_S1_S2048_0_0_0_0 (fun _ b => b) p (broadcastInDim S1 ![] bcast_S_S1 (nearWrap z n p)) (newRow z g mu n p)

theorem frame_eq (V : Valuation τ sig (Elt F)) : res_main_while0b_v65 V
    = frameV (V (Proc.devRef .tc main_v1_0)) (V (Proc.devRef .tc main_v1_3)) := rfl

theorem negDist_eq (V : Valuation τ sig (Elt F)) : res_main_while0b_v71 V
    = negDistV (V (Proc.devRef .tc main_v1_0)) (V (Proc.devRef .tc main_v1_3)) (V (Proc.devRef .tc main_v1_4)) := rfl

theorem near_eq (V : Valuation τ sig (Elt F)) : res_main_while0b_v72 V
    = nearW (V (Proc.devRef .tc main_v1_0)) (V (Proc.devRef .tc main_v1_3)) (V (Proc.devRef .tc main_v1_4)) := by
  unfold res_main_while0b_v72 nearW
  rw [negDist_eq]

theorem step_eq (V : Valuation τ sig (Elt F)) : step_main_v1_4 V
    = stepV (V (Proc.devRef .tc main_v1_0)) (V (Proc.devRef .tc main_v1_1)) (V (Proc.devRef .tc main_v1_2)) (V (Proc.devRef .tc main_v1_3)) (V (Proc.devRef .tc main_v1_4)) := by
  unfold step_main_v1_4 stepV newRow nearRow nearWrap flagV
  rw [near_eq, frame_eq]
  generalize nearW (V (Proc.devRef .tc main_v1_0)) (V (Proc.devRef .tc main_v1_3)) (V (Proc.devRef .tc main_v1_4)) = w
  generalize frameV (V (Proc.devRef .tc main_v1_0)) (V (Proc.devRef .tc main_v1_3)) = f
  unfold id
  refine congr (congr (congrArg (Host.scatter _ _) ?_) ?_) ?_
  · rfl
  · rfl
  · refine congr (congr (congrArg _ ?_) ?_) ?_
    · rfl
    · rfl
    · rfl

end Cert.Proof.ReferenceIdeal

end
-- ==== Proof.RefStep.lean ====
/- One trip of the reference's loop in real numbers: the frame's nearest prototype moves a tenth of the way to it if the
   frame is flagged. -/
module

public import proofs.«01_k».proof.Proof.RefTerms
public import proofs.«01_k».proof.Proof.KernelIdeal.OutValue
public import Idealize.ShloMosaic.Lib.Routing.OpsSet

@[expose] public section

set_option maxRecDepth 16384

noncomputable section

namespace Cert.Proof.ReferenceIdeal

open Cert.ReferenceIdeal Cert.ReferenceIdeal.Gen Cert.ReferenceIdeal.Value
open Cert.Proof.KernelIdeal (IsReal hit)
open Idealize.ShloMosaic Idealize.ShloMosaic.TcCoe Idealize.SL.Sem

theorem first_eq : Shape.Idx.first h_S_ = (ix0 : S_.Idx) := Subsingleton.elim _ _

theorem toInt_small (k : ℕ) (hk : k < 2 ^ 31) : (BitVec.ofNat 32 k).toInt = k := by
  rw [BitVec.toInt_eq_toNat_of_lt] <;> rw [BitVec.toNat_ofNat, Nat.mod_eq_of_lt (by omega)]
  omega

/-- One row of the frames. -/
theorem frame_at (z : Vec Ideal S2048x2048 .f32) (n : Vec Ideal S_ .i32) (k : Fin 2048) (hn : n ix0 = BitVec.ofNat 32 k.val) (i : Fin 2048) :
    frameV z n (ix1 i) = z (ix2 k i) := by
  pointwise [frameV]
  have h0 : Host.clampedStart S2048x2048 S1x2048 rfl (fun k => ((![n, constantI S_ 32 0#32] : Fin 2 → IVec S_ 32) k (Shape.Idx.first h_S_)).toInt) 0 = k.val := by
    refine Host.clampedStart_of_le _ _ _ _ ?_ ?_
    · show (n (Shape.Idx.first h_S_)).toInt = _
      rw [first_eq, hn, toInt_small _ (by omega)]
    · show k.val + 1 ≤ 2048
      omega
  have h1 : Host.clampedStart S2048x2048 S1x2048 rfl (fun k => ((![n, constantI S_ 32 0#32] : Fin 2 → IVec S_ 32) k (Shape.Idx.first h_S_)).toInt) 1 = 0 := by
    refine Host.clampedStart_of_le _ _ _ _ ?_ ?_
    · rfl
    · show 0 + 2048 ≤ 2048
      omega
  refine congrArg z (congrArg₂ ix2 (Fin.ext h0) (Fin.ext ?_))
  simp only [h1, zero_add]

/-- One row of the prototypes. -/
theorem row_at (p : Vec Ideal S64x2048 .f32) (a b : IVec S_ 32) (k : Fin 64) (ha : a ix0 = BitVec.ofNat 32 k.val) (hb : b ix0 = 0#32) (i : Fin 2048) :
    shapeCast S2048 (Host.dynamicSlice S1x2048 p (fun k => ((![a, b] : Fin 2 → IVec S_ 32) k (Shape.Idx.first h_S_)).toInt) sliceFits_S64x2048_S1x2048) shapeCasts_S1x2048_S2048 (ix1 i)
      = p (ix2 k i) := by
  pointwise
  have h0 : Host.clampedStart S64x2048 S1x2048 rfl (fun k => ((![a, b] : Fin 2 → IVec S_ 32) k (Shape.Idx.first h_S_)).toInt) 0 = k.val := by
    refine Host.clampedStart_of_le _ _ _ _ ?_ ?_
    · show (a (Shape.Idx.first h_S_)).toInt = _
      rw [first_eq, ha, toInt_small _ (by omega)]
    · show k.val + 1 ≤ 64
      omega
  have h1 : Host.clampedStart S64x2048 S1x2048 rfl (fun k => ((![a, b] : Fin 2 → IVec S_ 32) k (Shape.Idx.first h_S_)).toInt) 1 = 0 := by
    refine Host.clampedStart_of_le _ _ _ _ ?_ ?_
    · show (b (Shape.Idx.first h_S_)).toInt = _
      rw [first_eq, hb]; rfl
    · show 0 + 2048 ≤ 2048
      omega
  refine congrArg p (congrArg₂ ix2 (Fin.ext h0) (Fin.ext ?_))
  simp only [h1, zero_add]

/-- One flag. -/
theorem flag_at (g : Vec Ideal S2048 .i32) (n : Vec Ideal S_ .i32) (k : Fin 2048) (hn : n ix0 = BitVec.ofNat 32 k.val) : flagV (F := Ideal) g n ix0 = g (ix1 k) := by
  pointwise [flagV]
  have h0 : Host.clampedStart S2048 S1 rfl (fun _ => (n (Shape.Idx.first h_S_)).toInt) 0 = k.val := by
    refine Host.clampedStart_of_le _ _ _ _ ?_ ?_
    · show (n (Shape.Idx.first h_S_)).toInt = _
      rw [first_eq, hn, toInt_small _ (by omega)]
    · show k.val + 1 ≤ 2048
      omega
  exact congrArg g (congrArg ix1 (Fin.ext h0))

/-- The negated distances. -/
theorem negDist_at {z : Vec Ideal S2048x2048 .f32} {n : Vec Ideal S_ .i32} {P : Vec Ideal S64x2048 .f32} {p : Protos} {zz : ℕ → Fin 2048 → ℝ}
    (hz : IsReal z fun i d => zz i.val d) (hP : IsReal P p) (k : Fin 2048) (hn : n ix0 = BitVec.ofNat 32 k.val) (i : Fin 64) :
    negDistV z n P (ix1 i) = -((Real.sqrt (sqDist p (zz k.val) i) : ℝ) : EReal) := by
  pointwise [negDistV]
  simp only [frame_at z n k hn, hP i, hz k, ← EReal.coe_sub, ← EReal.coe_mul, coe_sum]
  rw [coe_sqrt (Finset.sum_nonneg fun _ _ => mul_self_nonneg _)]
  unfold sqDist
  simp only [sq]

/-- The order of the ranking is the order of the distances. -/
theorem before_eq (x y : EReal) : (FloatOps.cmpfTotal (F := Ideal) (φ := .f32) CmpDirection.gt (-x) (-y) == 1#1) = decide (x < y) := by
  rw [show FloatOps.cmpfTotal (F := Ideal) (φ := .f32) CmpDirection.gt (-x) (-y) = BitVec.ofBool (decide (-y < -x)) from rfl]
  simp only [EReal.neg_lt_neg_iff]
  by_cases h : x < y <;> simp [h]

theorem sqDist_nonneg (p : Protos) (z : Fin 2048 → ℝ) (i : Fin 64) : 0 ≤ sqDist p z i := Finset.sum_nonneg fun _ _ => sq_nonneg _

theorem top1_at (gt : EReal → EReal → BitVec 1) (x : S64.Idx → EReal) :
    (Host.topK S1 0 gt x sliceFits_S64_S1).2 (ix1 0)
      = BitVec.ofNat 32 (sortedFrom (fun a b : Fin 64 => gt (x (ix1 a)) (x (ix1 b)) == 1#1) 0).val := by
  unfold Host.topK Host.sort2
  dsimp only
  rw [dif_pos (show 0 < S64.rank by decide)]
  have hal : ∀ (j : S64.Idx) (k : Fin 64), j.along (0 : Fin 1) k = ix1 k := fun j k => by
    funext a
    match a with
    | ⟨0, _⟩ => rfl
  pointwise
  simp only [hal]
  rfl

theorem near_at {z : Vec Ideal S2048x2048 .f32} {n : Vec Ideal S_ .i32} {P : Vec Ideal S64x2048 .f32} {p : Protos} {zz : ℕ → Fin 2048 → ℝ}
    (hz : IsReal z fun i d => zz i.val d) (hP : IsReal P p) (k : Fin 2048) (hn : n ix0 = BitVec.ofNat 32 k.val) :
    nearW z n P ix0 = BitVec.ofNat 32 (near p (zz k.val)).val := by
  pointwise [nearW]
  have hfm : FirstMin (fun i => ((Real.sqrt (sqDist p (zz k.val) i) : ℝ) : EReal)) (near p (zz k.val)) :=
    (firstMin_spec (sqDist p (zz k.val))).of_lt_iff fun i j => by
      rw [EReal.coe_lt_coe_iff, Real.sqrt_lt_sqrt_iff (sqDist_nonneg _ _ _)]
  have hs := sortedFrom_firstMin _ hfm
  have hb : (fun a b : Fin 64 => (FloatOps.cmpfTotal (F := Ideal) (φ := .f32) CmpDirection.gt (negDistV z n P (ix1 a)) (negDistV z n P (ix1 b)) == 1#1))
      = rankBefore (fun i => ((Real.sqrt (sqDist p (zz k.val) i) : ℝ) : EReal)) := by
    funext a b
    rw [negDist_at hz hP k hn, negDist_at hz hP k hn, before_eq]; rfl
  rw [← hb] at hs
  have ht := top1_at (FloatOps.cmpfTotal (F := Ideal) (φ := .f32) CmpDirection.gt) (negDistV z n P)
  exact ht.trans (congrArg (fun a : Fin 64 => BitVec.ofNat 32 a.val) hs)

theorem nearWrap_at {z : Vec Ideal S2048x2048 .f32} {n : Vec Ideal S_ .i32} {P : Vec Ideal S64x2048 .f32} {a : Fin 64} (h : nearW z n P ix0 = BitVec.ofNat 32 a.val) :
    nearWrap z n P ix0 = BitVec.ofNat 32 a.val := by
  pointwise [nearWrap]
  rw [h]
  rw [show ∀ b : Fin 64, IntOp.cmpi CmpIPredicate.slt (BitVec.ofNat 32 b.val) 0#32 = 0#1 by decide]; rfl

theorem nearRow_at {z : Vec Ideal S2048x2048 .f32} {n : Vec Ideal S_ .i32} {P : Vec Ideal S64x2048 .f32} {a : Fin 64} (h : nearW z n P ix0 = BitVec.ofNat 32 a.val) (i : Fin 2048) :
    nearRow z n P (ix1 i) = P (ix2 a i) :=
  row_at P _ _ a (nearWrap_at h) (by decide) i

theorem ix1_surj (y : S2048.Idx) : ∃ q : Fin 2048, y = ix1 q :=
  ⟨y 0, funext fun a => match a with | ⟨0, _⟩ => rfl⟩

theorem lands_row (idx : IVec S1 32) (k : Fin 64) (hidx : idx (ix1 0) = BitVec.ofNat 32 k.val) (y : Fin 2048) (r : Fin 64) (c : Fin 2048) :
    scatter_S64x2048_S1_S2048_0_0_0_0.resultIdx? (ix1 y) idx = some (ix2 r c) ↔ r = k ∧ y = c := by
  have hs0 : scatter_S64x2048_S1_S2048_0_0_0_0.start (ix1 y) idx 0 = (k.val : Int) := by
    unfold ScatterDims.start
    rw [dif_pos (show (0 : Fin 2) ∈ scatter_S64x2048_S1_S2048_0_0_0_0.scatterDimsToOperandDims by decide)]
    have hq : ∀ q : S1.Idx, (idx q).toInt = (k.val : Int) := fun q => by
      have : q = ix1 0 := by
        funext a
        match a with
        | ⟨0, _⟩ => exact Subsingleton.elim (α := Fin 1) _ _
      rw [this, hidx, toInt_small _ (by omega)]
    exact hq _
  have hs1 : scatter_S64x2048_S1_S2048_0_0_0_0.start (ix1 y) idx 1 = 0 := by
    unfold ScatterDims.start
    rw [dif_neg (show (1 : Fin 2) ∉ scatter_S64x2048_S1_S2048_0_0_0_0.scatterDimsToOperandDims by decide)]
  have hw0 : scatter_S64x2048_S1_S2048_0_0_0_0.window (ix1 y) 0 = 0 := by
    unfold ScatterDims.window
    rw [dif_neg (by decide)]
  have hw1 : scatter_S64x2048_S1_S2048_0_0_0_0.window (ix1 y) 1 = y.val := by
    unfold ScatterDims.window
    rw [dif_pos (by decide)]
    rfl
  rw [Routing.resultIdx?_eq_some]
  constructor
  · intro h
    have h0 := h 0
    have h1 := h 1
    rw [hs0, hw0] at h0
    rw [hs1, hw1] at h1
    change (k.val : Int) + (0 : ℕ) = r.val at h0
    change 0 + (y.val : Int) = c.val at h1
    exact ⟨Fin.ext (by omega), Fin.ext (by omega)⟩
  · rintro ⟨rfl, rfl⟩ a
    match a with
    | ⟨0, _⟩ =>
      show scatter_S64x2048_S1_S2048_0_0_0_0.start (ix1 y) idx 0 + (scatter_S64x2048_S1_S2048_0_0_0_0.window (ix1 y) 0 : Int) = r.val
      rw [hs0, hw0]; simp
    | ⟨1, _⟩ =>
      show scatter_S64x2048_S1_S2048_0_0_0_0.start (ix1 y) idx 1 + (scatter_S64x2048_S1_S2048_0_0_0_0.window (ix1 y) 1 : Int) = y.val
      rw [hs1, hw1]; simp

/-- A row written. -/
theorem scatter_row (P : S64x2048.Idx → EReal) (idx : IVec S1 32) (k : Fin 64) (hidx : idx (ix1 0) = BitVec.ofNat 32 k.val) (v : S2048.Idx → EReal) (r : Fin 64) (c : Fin 2048) :
    Host.scatter scatter_S64x2048_S1_S2048_0_0_0_0 (fun _ b => b) P idx v (ix2 r c) = if r = k then v (ix1 c) else P (ix2 r c) := by
  by_cases h : r = k
  · rw [if_pos h]
    refine Routing.scatter_set_hit _ _ _ _ _ _ (fun y hy => ?_) (ix1 c) ((lands_row idx k hidx c r c).2 ⟨h, rfl⟩)
    obtain ⟨y, rfl⟩ := ix1_surj y
    rw [((lands_row idx k hidx y r c).1 hy).2]
  · rw [if_neg h]
    refine Routing.scatter_set_miss _ _ _ _ _ fun y hy => ?_
    obtain ⟨y, rfl⟩ := ix1_surj y
    exact h ((lands_row idx k hidx y r c).1 hy).1

/-- One trip moves the prototypes. -/
theorem step_at {z : Vec Ideal S2048x2048 .f32} {g : Vec Ideal S2048 .i32} {mu : Vec Ideal S_ .f32} {n : Vec Ideal S_ .i32} {P : Vec Ideal S64x2048 .f32} {p : Protos} {zz : ℕ → Fin 2048 → ℝ}
    (hz : IsReal z fun i d => zz i.val d) (hP : IsReal P p) (k : Fin 2048) (hn : n ix0 = BitVec.ofNat 32 k.val) (hmu : mu ix0 = ((9 / 10 : ℝ) : EReal))
    (on : Prop) [Decidable on] (hon : 0 < (g (ix1 k) : BitVec 32).toInt ↔ on) : IsReal (stepV z g mu n P) (move p (zz k.val) on) := by
  intro r c
  have ha := near_at hz hP k hn
  have hw : broadcastInDim S1 ![] bcast_S_S1 (nearWrap z n P) (ix1 0) = BitVec.ofNat 32 (near p (zz k.val)).val := by
    pointwise
    exact nearWrap_at ha
  refine (scatter_row P _ _ hw _ r c).trans ?_
  have hrow : newRow z g mu n P (ix1 c) = if on then ((9 / 10 * p (near p (zz k.val)) c + 1 / 10 * zz k.val c : ℝ) : EReal) else ((p (near p (zz k.val)) c : ℝ) : EReal) := by
    pointwise [newRow]
    rw [flag_at g n k hn, nearRow_at ha, frame_at z n k hn, hP, hz, hmu]
    have hs : IntOp.cmpi CmpIPredicate.sgt (g (ix1 k)) 0#32 = 1#1 ↔ on := by
      rw [← hon]
      simp only [IntOp.cmpi, BitVec.slt, BitVec.toInt_zero]
      by_cases h : 0 < BitVec.toInt (g (ix1 k)) <;> simp [h]
    have h1 : (1 : EReal) - ((9 / 10 : ℝ) : EReal) = ((1 / 10 : ℝ) : EReal) := by
      rw [← EReal.coe_one, ← EReal.coe_sub]; norm_num
    rw [h1, ← EReal.coe_mul, ← EReal.coe_mul, ← EReal.coe_add]
    by_cases h : on
    · rw [if_pos h]
      exact if_pos (hs.2 h)
    · rw [if_neg h]
      exact if_neg fun q => h (hs.1 q)
  rw [hrow]
  unfold move
  by_cases hr : r = near p (zz k.val)
  · subst hr
    by_cases h : on
    · simp [h]
    · simp [h]
  · simp [hr, hP r c]

end Cert.Proof.ReferenceIdeal

end
-- ==== Proof.RefLoop.lean ====
/- The reference's loop in real numbers: after `n` trips the prototypes are the ones `n` frames moved. -/
module

public import proofs.«01_k».proof.Proof.RefStep

@[expose] public section

set_option maxRecDepth 16384

noncomputable section

namespace Cert.Proof.ReferenceIdeal

open Cert.ReferenceIdeal Cert.ReferenceIdeal.Gen Cert.ReferenceIdeal.Value
open Cert.Proof.KernelIdeal (IsReal hit)
open Idealize.ShloMosaic Idealize.ShloMosaic.TcCoe Idealize.ShloMosaic.Tactic Idealize.SL.Sem
open Idealize.ShloMosaic.StableHlo

section entry

variable {F : FTy → Type} [FloatOps F] (m : (ℓ : Loc nD τ sig) → Buf (Elt F) ℓ) (c : Dev nD)

theorem entry_z : entryContents preI m c (Proc.devRef .tc main_v1_0) = m ((c.tc : Thread nD τ).loc main_arg0) := by
  simp only [entryContents, afterL_cons, afterL_nil]
  after_reads_simp
  rfl

theorem entry_g : entryContents preI m c (Proc.devRef .tc main_v1_1) = m ((c.tc : Thread nD τ).loc main_arg1) := by
  simp only [entryContents, afterL_cons, afterL_nil]
  after_reads_simp
  rfl

theorem entry_mu : entryContents preI m c (Proc.devRef .tc main_v1_2) = (Host.divf (constant S_ .f32 0x41100000#32) (constant S_ .f32 0x41200000#32) : FVec F S_ .f32) := by
  simp only [entryContents, afterL_cons, afterL_nil]
  after_reads_simp
  rfl

theorem entry_p : entryContents preI m c (Proc.devRef .tc main_v1_4) = m ((c.tc : Thread nD τ).loc main_arg2) := by
  simp only [entryContents, afterL_cons, afterL_nil]
  after_reads_simp
  rfl

end entry

variable (m : (ℓ : Loc nD τ sig) → Buf (Elt Ideal) ℓ) (c : Dev nD)

theorem mu_at : (Host.divf (constant S_ .f32 0x41100000#32) (constant S_ .f32 0x41200000#32) : FVec Ideal S_ .f32) ix0 = ((9 / 10 : ℝ) : EReal) := by
  pointwise
  rw [nine_f32, ten_f32, coe_div _ (by norm_num)]

/-- The carried buffers after `n` trips. -/
structure Carried (V : Valuation τ sig (Elt Ideal)) (zv : Vec Ideal S2048x2048 .f32) (gv : Vec Ideal S2048 .i32) (n : ℕ) (p : Protos) : Prop where
  z : V (Proc.devRef .tc main_v1_0) = zv
  g : V (Proc.devRef .tc main_v1_1) = gv
  mu : (V (Proc.devRef .tc main_v1_2) : Vec Ideal S_ .f32) ix0 = ((9 / 10 : ℝ) : EReal)
  n : (V (Proc.devRef .tc main_v1_3) : Vec Ideal S_ .i32) ix0 = BitVec.ofNat 32 n
  p : IsReal (V (Proc.devRef .tc main_v1_4) : Vec Ideal S64x2048 .f32) p

theorem counter_step (n : IVec S_ 32) : (id (addi n (constantI S_ 32 1#32)) : IVec S_ 32) ix0 = n ix0 + 1#32 := rfl

theorem loop_value {zv : Vec Ideal S2048x2048 .f32} {gv : Vec Ideal S2048 .i32} {p : Protos} {zz : ℕ → Fin 2048 → ℝ} (on : ℕ → Prop) [DecidablePred on]
    (hz : IsReal zv fun i d => zz i.val d) (hg : ∀ i : Fin 2048, 0 < (gv (ix1 i) : BitVec 32).toInt ↔ on i.val)
    (V : Valuation τ sig (Elt Ideal)) (h0 : Carried V zv gv 0 p) :
    ∀ n, n ≤ 2048 → Carried (STEP^[n] V) zv gv n (moves zz on p n)
  | 0, _ => h0
  | n + 1, hn => by
    have h := loop_value on hz hg V h0 n (by omega)
    rw [Function.iterate_succ_apply']
    refine ⟨?_, ?_, ?_, ?_, ?_⟩
    · rw [STEP_main_v1_0]; exact h.z
    · rw [STEP_main_v1_1]; exact h.g
    · rw [STEP_main_v1_2]; exact h.mu
    · rw [STEP_main_v1_3]
      refine (counter_step _).trans ?_
      rw [h.n]
      apply BitVec.eq_of_toNat_eq
      simp
    · rw [STEP_main_v1_4, step_eq, h.z, h.g]
      exact step_at hz h.p ⟨n, by omega⟩ h.n h.mu (on n) (hg ⟨n, by omega⟩)

theorem entry_carried {p : Protos} (hP : IsReal (m ((c.tc : Thread nD τ).loc main_arg2) : Vec Ideal S64x2048 .f32) p) :
    Carried (entryContents preI m c) (m ((c.tc : Thread nD τ).loc main_arg0)) (m ((c.tc : Thread nD τ).loc main_arg1)) 0 p where
  z := entry_z m c
  g := entry_g m c
  mu := by rw [entry_mu]; exact mu_at
  n := by rw [ctr_entry]
  p := by rw [entry_p]; exact hP

end Cert.Proof.ReferenceIdeal

end
-- ==== Proof.RefLoss.lean ====
/- The reference's loss in real numbers, of the prototypes its loop leaves. -/
module

public import proofs.«01_k».proof.Proof.RefStep

@[expose] public section

set_option maxRecDepth 16384

noncomputable section

namespace Cert.Proof.ReferenceIdeal

open Cert.ReferenceIdeal Cert.ReferenceIdeal.Gen Cert.ReferenceIdeal.Value
open Cert.Proof.KernelIdeal (IsReal hit)
open Idealize.ShloMosaic Idealize.ShloMosaic.TcCoe Idealize.SL.Sem

/-! ## The three nearest prototypes -/

theorem topThree_at (gt : EReal → EReal → BitVec 1) (x : S2048x64.Idx → EReal) (i : Fin 2048) (r : Fin 3) :
    (Host.topK S2048x3 1 gt x sliceFits_S2048x64_S2048x3).2 (ix2 i r)
      = BitVec.ofNat 32 (sortedFrom (fun a b : Fin 64 => gt (x (ix2 i a)) (x (ix2 i b)) == 1#1) ⟨r.val, by omega⟩).val := by
  unfold Host.topK Host.sort2
  dsimp only
  rw [dif_pos (show 1 < S2048x64.rank by decide)]
  have hal : ∀ (j : S2048x64.Idx) (k : Fin 64), j.along (1 : Fin 2) k = ix2 (j 0 : Fin 2048) k := fun j k => by
    funext a
    match a with
    | ⟨0, _⟩ => rfl
    | ⟨1, _⟩ => rfl
  pointwise
  simp only [hal]
  rfl

/-- The distances ranked are the square roots of the squared distances. -/
theorem rank_at {z : Vec Ideal S2048x2048 .f32} {P : Vec Ideal S64x2048 .f32} {p : Protos} {zz : ℕ → Fin 2048 → ℝ}
    (hz : IsReal z fun i d => zz i.val d) (hP : IsReal P p) (i : Fin 2048) (j : Fin 64) :
    rankV z P (ix2 i j) = -((Real.sqrt (sqDist p (zz i.val) j) : ℝ) : EReal) := by
  pointwise [rankV]
  simp only [hz i, hP j, two_f32, ← EReal.coe_mul, coe_sum]
  rw [← EReal.coe_add, ← EReal.coe_sub, ← EReal.coe_zero, coe_max, coe_sqrt (le_max_right _ _)]
  have h : (∑ x, zz i.val x * zz i.val x) + (∑ x, p j x * p j x) - 2 * ∑ x, zz i.val x * p j x = sqDist p (zz i.val) j := by
    rw [sqDist_eq]; unfold dot; ring
  rw [h, max_eq_left (sqDist_nonneg _ _ _)]

theorem three_at {z : Vec Ideal S2048x2048 .f32} {P : Vec Ideal S64x2048 .f32} {p : Protos} {zz : ℕ → Fin 2048 → ℝ}
    (hz : IsReal z fun i d => zz i.val d) (hP : IsReal P p) (i : Fin 2048) :
    threeW z P (ix2 i 0) = BitVec.ofNat 32 (near1 p (zz i.val)).val ∧ threeW z P (ix2 i 1) = BitVec.ofNat 32 (near2 p (zz i.val)).val
      ∧ threeW z P (ix2 i 2) = BitVec.ofNat 32 (near3 p (zz i.val)).val := by
  have hb : (fun a b : Fin 64 => (FloatOps.cmpfTotal (F := Ideal) (φ := .f32) CmpDirection.gt (rankV z P (ix2 i a)) (rankV z P (ix2 i b)) == 1#1))
      = rankBefore (sqDistE p (zz i.val)) := by
    funext a b
    rw [rank_at hz hP, rank_at hz hP, before_eq]
    unfold rankBefore sqDistE
    simp only [EReal.coe_lt_coe_iff, Real.sqrt_lt_sqrt_iff (sqDist_nonneg _ _ _)]
  have hs := sortedFrom_firstThree (sqDistE p (zz i.val)) (fun j => EReal.coe_lt_top _) (near_firstThree p (zz i.val))
  rw [← hb] at hs
  refine ⟨?_, ?_, ?_⟩
  · exact (topThree_at _ _ i 0).trans (congrArg (fun a : Fin 64 => BitVec.ofNat 32 a.val) hs.1)
  · exact (topThree_at _ _ i 1).trans (congrArg (fun a : Fin 64 => BitVec.ofNat 32 a.val) hs.2.1)
  · exact (topThree_at _ _ i 2).trans (congrArg (fun a : Fin 64 => BitVec.ofNat 32 a.val) hs.2.2)

/-- The rows gathered. -/
theorem gather_at (P : S64x2048.Idx → EReal) (idx : IVec S2048x3x1 32) (i : Fin 2048) (r : Fin 3) (d : Fin 2048) (k : Fin 64) (hk : idx (ix3 i r 0) = BitVec.ofNat 32 k.val) :
    Host.gather gather_S64x2048_S2048x3x1_S2048x3x2048_2_0_n_n_0_2_12048 P idx (ix3 i r d) = P (ix2 k d) := by
  unfold Host.gather
  refine congrArg P (funext fun a => Fin.ext ?_)
  let D := gather_S64x2048_S2048x3x1_S2048x3x2048_2_0_n_n_0_2_12048
  match a with
  | ⟨0, _⟩ =>
    show D.start (ix3 i r d) idx 0 + D.batchCoord (ix3 i r d) 0 + D.offCoord (ix3 i r d) 0 = k.val
    rw [D.batchCoord_eq_zero _ _ (by decide), D.offCoord_eq_zero _ _ (by decide)]
    unfold GatherDims.start
    rw [dif_pos (show (0 : Fin 2) ∈ D.startIndexMap by decide)]
    have hsi : D.siIdx (ix3 i r d) ⟨D.startIndexMap.idxOf 0, by decide⟩ = ix3 i r 0 := by
      funext b
      match b with
      | ⟨0, _⟩ => rfl
      | ⟨1, _⟩ => rfl
      | ⟨2, _⟩ => rfl
    rw [hsi, hk, toInt_small _ (by omega)]
    show min ((k.val : Int)).toNat 63 + 0 + 0 = k.val
    omega
  | ⟨1, _⟩ =>
    show D.start (ix3 i r d) idx 1 + D.batchCoord (ix3 i r d) 1 + D.offCoord (ix3 i r d) 1 = d.val
    rw [D.batchCoord_eq_zero _ _ (by decide)]
    unfold GatherDims.start GatherDims.offCoord
    rw [dif_neg (show (1 : Fin 2) ∉ D.startIndexMap by decide), dif_pos (by decide)]
    show 0 + 0 + d.val = d.val
    omega

theorem bar_at {z : Vec Ideal S2048x2048 .f32} {P : Vec Ideal S64x2048 .f32} {p : Protos} {zz : ℕ → Fin 2048 → ℝ}
    (hz : IsReal z fun i d => zz i.val d) (hP : IsReal P p) (i d : Fin 2048) :
    barV z P (ix2 i d) = (((p (near1 p (zz i.val)) d + p (near2 p (zz i.val)) d + p (near3 p (zz i.val)) d) / 3 : ℝ) : EReal) := by
  obtain ⟨h1, h2, h3⟩ := three_at hz hP i
  have hb : ∀ r : Fin 3, broadcastInDim S2048x3x1 ![0, 1] bcast_S2048x3_S2048x3x1_0_1 (threeW z P) (ix3 i r 0) = threeW z P (ix2 i r) := fun r => by pointwise
  pointwise [barV]
  rw [Fin.sum_univ_three, gather_at P _ i 0 d _ ((hb 0).trans h1), gather_at P _ i 1 d _ ((hb 1).trans h2), gather_at P _ i 2 d _ ((hb 2).trans h3),
    hP, hP, hP, three_f32, ← EReal.coe_add, ← EReal.coe_add, coe_div _ (by norm_num)]

theorem pull_at {z : Vec Ideal S2048x2048 .f32} {P : Vec Ideal S64x2048 .f32} {p : Protos} {zz : ℕ → Fin 2048 → ℝ}
    (hz : IsReal z fun i d => zz i.val d) (hP : IsReal P p) : pullV z P ix0 = (((∑ i : Fin 2048, pull p (zz i.val)) / 4194304 : ℝ) : EReal) := by
  pointwise [pullV]
  simp only [hz _, bar_at hz hP, ← EReal.coe_sub, ← EReal.coe_mul, coe_sum]
  rw [n4194304_f32, coe_div _ (by norm_num)]
  unfold pull
  simp only [sq]

/-! ## The anomalies -/

theorem fold_addi (s : Finset (Fin 2048)) (h : Fin 2048 → ℕ) : Finset.fold IntOp.addi (0#32) (fun k => BitVec.ofNat 32 (h k)) s = BitVec.ofNat 32 (∑ k ∈ s, h k) := by
  induction s using Finset.induction_on with
  | empty => rfl
  | insert a s ha ih =>
    rw [Finset.fold_insert ha, ih, Finset.sum_insert ha, BitVec.ofNat_add]; rfl

/-- The number of anomalies, as a natural number. -/
def countN (off : ℕ → Prop) [DecidablePred off] : ℕ := ∑ i : Fin 2048, if off i.val then 1 else 0

theorem countN_cast (off : ℕ → Prop) [DecidablePred off] : (countN off : ℝ) = count off := by
  unfold countN count; push_cast; rfl

theorem countN_le (off : ℕ → Prop) [DecidablePred off] : countN off ≤ 2048 := by
  unfold countN
  refine (Finset.sum_le_card_nsmul _ _ 1 fun i _ => by split <;> omega).trans ?_
  simp

theorem eq_zero_word (w : BitVec 32) (p : Prop) [Decidable p] (h : w = 0#32 ↔ p) : IntOp.cmpi CmpIPredicate.eq w 0#32 = if p then 1#1 else 0#1 := by
  unfold IntOp.cmpi
  by_cases hp : p
  · rw [if_pos hp, h.2 hp]; rfl
  · rw [if_neg hp]
    have : ¬ w = 0#32 := fun e => hp (h.1 e)
    have hb : (w == 0#32) = false := by simpa using this
    simp only [hb]; rfl

theorem cnt_at {g : Vec Ideal S2048 .i32} {off : ℕ → Prop} [DecidablePred off] (hoff : ∀ i : Fin 2048, (g (ix1 i) : BitVec 32) = 0#32 ↔ off i.val) :
    cntW (F := Ideal) g ix0 = BitVec.ofNat 32 (countN off) := by
  pointwise [cntW]
  have : (fun k : Fin 2048 => BitVec.setWidth 32 (IntOp.cmpi CmpIPredicate.eq (g (ix1 k)) 0#32)) = fun k => BitVec.ofNat 32 (if off k.val then 1 else 0) := by
    funext k
    rw [eq_zero_word _ _ (hoff k)]
    by_cases h : off k.val <;> simp [h]
  rw [this, fold_addi]; rfl

theorem some_at (off : ℕ → Prop) [DecidablePred off] : IntOp.cmpi CmpIPredicate.sgt (BitVec.ofNat 32 (countN off)) 0#32 = if 0 < count off then 1#1 else 0#1 := by
  have hle := countN_le off
  have h : 0 < count off ↔ 0 < countN off := by rw [← countN_cast]; exact Nat.cast_pos
  simp only [IntOp.cmpi, BitVec.slt, BitVec.toInt_zero, toInt_small _ (show countN off < 2 ^ 31 by omega)]
  by_cases hc : 0 < countN off
  · rw [if_pos (h.2 hc), decide_eq_true (by exact_mod_cast hc)]; rfl
  · rw [if_neg (fun q => hc (h.1 q)), decide_eq_false (by exact_mod_cast hc)]; rfl

theorem maxsi_one (n : ℕ) (hn : n ≤ 2048) : IntOp.maxsi (BitVec.ofNat 32 n) 1#32 = BitVec.ofNat 32 (max n 1) := by
  have h1 : (1#32 : BitVec 32).toInt = 1 := by decide
  unfold IntOp.maxsi
  rw [BitVec.slt, toInt_small _ (show n < 2 ^ 31 by omega), h1]
  by_cases hc : 1 < n
  · rw [max_eq_left hc.le, decide_eq_true (by exact_mod_cast hc)]; rfl
  · rw [max_eq_right (by omega), decide_eq_false (by exact_mod_cast hc)]
    rfl

theorem max_at (off : ℕ → Prop) [DecidablePred off] :
    FloatOps.sitofp (F := Ideal) FTy.f32 (IntOp.maxsi (BitVec.ofNat 32 (countN off)) 1#32) = ((max (count off) 1 : ℝ) : EReal) := by
  have hle := countN_le off
  have h : IntOp.maxsi (BitVec.ofNat 32 (countN off)) 1#32 = BitVec.ofNat 32 (max (countN off) 1) := maxsi_one _ hle
  rw [h]
  show (((BitVec.ofNat 32 (max (countN off) 1)).toInt : ℝ) : EReal) = _
  rw [toInt_small _ (by omega), ← countN_cast]
  push_cast
  rfl

theorem mean_at {z : Vec Ideal S2048x2048 .f32} {g : Vec Ideal S2048 .i32} {zz : ℕ → Fin 2048 → ℝ} {off : ℕ → Prop} [DecidablePred off]
    (hz : IsReal z fun i d => zz i.val d) (hoff : ∀ i : Fin 2048, (g (ix1 i) : BitVec 32) = 0#32 ↔ off i.val) (d : Fin 2048) :
    meanV z g (ix1 d) = ((meanOff zz off d : ℝ) : EReal) := by
  pointwise [meanV]
  rw [cnt_at hoff, max_at]
  have : ∀ x : Fin 2048, Scalar.select (IntOp.cmpi CmpIPredicate.eq (g (ix1 x)) 0#32) (z (ix2 x d)) 0 = ((if off x.val then zz x.val d else 0 : ℝ) : EReal) := fun x => by
    rw [eq_zero_word _ _ (hoff x), hz]
    by_cases h : off x.val
    · simp only [h, if_true]; rfl
    · simp only [h, if_false]; rfl
  simp only [this, coe_sum]
  rw [coe_div _ (by positivity)]
  rfl

theorem rho_at : Ideal.div (Ideal.ofBits FTy.f32 1120272384#32) (Ideal.ofBits FTy.f32 1120403456#32) = ((99 / 100 : ℝ) : EReal) := by
  rw [n99_f32, n100_f32, coe_div _ (by norm_num)]

theorem newMean_at {z : Vec Ideal S2048x2048 .f32} {g : Vec Ideal S2048 .i32} {ma : Vec Ideal S2048 .f32} {ini : Vec Ideal S_ .i1} {zz : ℕ → Fin 2048 → ℝ} {a : Fin 2048 → ℝ}
    {off : ℕ → Prop} [DecidablePred off] {init : Prop} [Decidable init]
    (hz : IsReal z fun i d => zz i.val d) (hoff : ∀ i : Fin 2048, (g (ix1 i) : BitVec 32) = 0#32 ↔ off i.val) (hma : ∀ d, ma (ix1 d) = ((a d : ℝ) : EReal))
    (hini : (ini ix0 : BitVec 1) = if init then 1#1 else 0#1) (d : Fin 2048) :
    newMeanV z g ma ini (ix1 d) = ((newMean zz off init a d : ℝ) : EReal) := by
  pointwise [newMeanV]
  rw [cnt_at hoff, some_at, rho_at, mean_at hz hoff, hma, hini]
  have h1 : (1 : EReal) - ((99 / 100 : ℝ) : EReal) = ((1 / 100 : ℝ) : EReal) := by
    rw [← EReal.coe_one, ← EReal.coe_sub]; norm_num
  rw [h1, ← EReal.coe_mul, ← EReal.coe_mul, ← EReal.coe_add]
  unfold newMean
  by_cases hc : 0 < count off
  · by_cases hi : init
    · simp only [hc, hi, if_true]; rfl
    · simp only [hc, hi, if_true, if_false]; rfl
  · simp only [hc, if_false]; rfl

theorem push_at {z : Vec Ideal S2048x2048 .f32} {g : Vec Ideal S2048 .i32} {ma : Vec Ideal S2048 .f32} {ini : Vec Ideal S_ .i1} {zz : ℕ → Fin 2048 → ℝ} {a : Fin 2048 → ℝ}
    {off : ℕ → Prop} [DecidablePred off] {init : Prop} [Decidable init]
    (hz : IsReal z fun i d => zz i.val d) (hoff : ∀ i : Fin 2048, (g (ix1 i) : BitVec 32) = 0#32 ↔ off i.val) (hma : ∀ d, ma (ix1 d) = ((a d : ℝ) : EReal))
    (hini : (ini ix0 : BitVec 1) = if init then 1#1 else 0#1) :
    pushV z g ma ini ix0 = (((∑ i : Fin 2048, push (newMean zz off init a) (zz i.val)) / 2048 : ℝ) : EReal) := by
  have hd : ∀ i, distV z g ma ini (ix1 i) = ((Real.sqrt (∑ d, (zz i.val d - newMean zz off init a d) ^ 2) : ℝ) : EReal) := fun i => by
    pointwise [distV]
    simp only [hz i, newMean_at hz hoff hma hini, ← EReal.coe_sub, ← EReal.coe_mul, coe_sum]
    rw [coe_sqrt (Finset.sum_nonneg fun _ _ => mul_self_nonneg _)]
    simp only [sq]
  pointwise [pushV]
  simp only [hd, ← EReal.coe_one, ← EReal.coe_zero, ← EReal.coe_sub, coe_max, coe_sum]
  rw [n2048_f32, coe_div _ (by norm_num)]
  rfl

/-- The reference's loss. -/
theorem out_at {z : Vec Ideal S2048x2048 .f32} {g : Vec Ideal S2048 .i32} {P : Vec Ideal S64x2048 .f32} {ma : Vec Ideal S2048 .f32} {ini : Vec Ideal S_ .i1}
    {zz : ℕ → Fin 2048 → ℝ} {p : Protos} {a : Fin 2048 → ℝ} {off : ℕ → Prop} [DecidablePred off] {init : Prop} [Decidable init]
    (hz : IsReal z fun i d => zz i.val d) (hP : IsReal P p) (hoff : ∀ i : Fin 2048, (g (ix1 i) : BitVec 32) = 0#32 ↔ off i.val)
    (hma : ∀ d, ma (ix1 d) = ((a d : ℝ) : EReal)) (hini : (ini ix0 : BitVec 1) = if init then 1#1 else 0#1) :
    outV z g P ma ini ix0 = (((∑ i : Fin 2048, pull p (zz i.val)) / 4194304
      + 1 / 2 * (if init ∨ 0 < count off then (∑ i : Fin 2048, push (newMean zz off init a) (zz i.val)) / 2048 else 0) : ℝ) : EReal) := by
  pointwise [outV]
  rw [cnt_at hoff, some_at, hini, pull_at hz hP, push_at hz hoff hma hini, half_f32, ← EReal.coe_mul]
  by_cases hi : init
  · by_cases hc : 0 < count off
    · simp only [hi, hc, true_or, if_true]; rw [EReal.coe_add]; rfl
    · simp only [hi, hc, true_or, if_true, if_false]; rw [EReal.coe_add]; rfl
  · by_cases hc : 0 < count off
    · simp only [hi, hc, or_true, if_true, if_false]; rw [EReal.coe_add]; rfl
    · simp only [hi, hc, or_false, if_false, mul_zero]; rw [EReal.coe_add]; rfl

end Cert.Proof.ReferenceIdeal

end
-- ==== Proof.Value.lean ====
/- The value claim: from finite arguments both programs end at the same real loss. -/
module

public import proofs.«01_k».proof.Defs
public import proofs.«01_k».proof.Proof.Gen.Pre_finite
public import proofs.«01_k».proof.Proof.KernelIdeal.HostValue
public import proofs.«01_k».proof.Proof.RefLoop
public import proofs.«01_k».proof.Proof.RefLoss
public import Idealize.ShloMosaic.Lib.ReduceAll

@[expose] public section

set_option maxRecDepth 16384

noncomputable section

namespace Cert.Proof

open Idealize.ShloMosaic Idealize.ShloMosaic.TcCoe Idealize.SL.Sem

/-! ## The precondition -/

section pre

open Cert.Pre_finite Cert.Pre_finite.Gen

/-- A number below infinity in absolute value is real. -/
theorem real_of_finite (x : EReal) (h : FloatOps.cmpf (F := Ideal) (φ := .f32) .olt (max x (-x)) (Ideal.ofBits .f32 0x7F800000#32) = 1#1) : x = ((x.toReal : ℝ) : EReal) := by
  rw [inf_f32] at h
  have h' : max x (-x) < ⊤ := by
    by_contra hn
    have : FloatOps.cmpf (F := Ideal) (φ := .f32) .olt (max x (-x)) ⊤ = BitVec.ofBool (decide (max x (-x) < ⊤)) := rfl
    rw [this, decide_eq_false hn] at h
    exact absurd h (by decide)
  rw [EReal.coe_toReal]
  · rintro rfl
    exact absurd h' (by simp)
  · rintro rfl
    exact absurd h' (by simp)

/-- What the precondition says of the three arrays. -/
theorem finite_spec (z : FVec Ideal S2048x2048 .f32) (g : IVec S2048 32) (P : FVec Ideal S64x2048 .f32) (ages : FVec Ideal S64 .f32) (ma : FVec Ideal S2048 .f32) (w : IVec S_ 1)
    (h : Cert.Pre_finite.fn (F := Ideal) z g P ages ma w = fun _ => 1#1) :
    (∀ i, z i = (((z i : EReal).toReal : ℝ) : EReal)) ∧ (∀ i, P i = (((P i : EReal).toReal : ℝ) : EReal)) ∧ ∀ i, ma i = (((ma i : EReal).toReal : ℝ) : EReal) := by
  have h0 := congrFun h ix0
  unfold Cert.Pre_finite.fn at h0
  dsimp only at h0
  have hsub : Subsingleton S_.Idx := inferInstance
  obtain ⟨h1, hm⟩ := IntOp.andi_eq_one.1 h0
  obtain ⟨hz, hp⟩ := IntOp.andi_eq_one.1 h1
  exact ⟨fun i => real_of_finite _ (Host.reduce_andi_all _ _ _ _ _ hz i), fun i => real_of_finite _ (Host.reduce_andi_all _ _ _ _ _ hp i),
    fun i => real_of_finite _ (Host.reduce_andi_all _ _ _ _ _ hm i)⟩

end pre

/-! ## The real arguments -/

open Cert.Proof.KernelIdeal (IsReal)

/-- The frames, as reals indexed by any natural number. -/
def framesOf (z : (⟨2, ![2048, 2048]⟩ : Shape).Idx → EReal) : ℕ → Fin 2048 → ℝ := fun n d => if h : n < 2048 then (z (ix2 ⟨n, h⟩ d)).toReal else 0

/-- The flagged frames and the anomalies. -/
def onOf (g : (⟨1, ![2048]⟩ : Shape).Idx → BitVec 32) : ℕ → Prop := fun n => ∃ h : n < 2048, 0 < (g (ix1 ⟨n, h⟩)).toInt
def offOf (g : (⟨1, ![2048]⟩ : Shape).Idx → BitVec 32) : ℕ → Prop := fun n => ∃ h : n < 2048, g (ix1 ⟨n, h⟩) = 0#32

theorem framesOf_real {z : (⟨2, ![2048, 2048]⟩ : Shape).Idx → EReal} (h : ∀ i, z i = (((z i).toReal : ℝ) : EReal)) : IsReal z fun i d => framesOf z i.val d := fun i d => by
  have e : framesOf z i.val d = (z (ix2 i d)).toReal := dif_pos i.isLt
  exact (h _).trans (congrArg _ e.symm)

theorem onOf_iff (g : (⟨1, ![2048]⟩ : Shape).Idx → BitVec 32) (i : Fin 2048) : 0 < (g (ix1 i)).toInt ↔ onOf g i.val :=
  ⟨fun h => ⟨i.isLt, h⟩, fun ⟨_, h⟩ => h⟩

theorem offOf_iff (g : (⟨1, ![2048]⟩ : Shape).Idx → BitVec 32) (i : Fin 2048) : g (ix1 i) = 0#32 ↔ offOf g i.val :=
  ⟨fun h => ⟨i.isLt, h⟩, fun ⟨_, h⟩ => h⟩

open Classical in
/-- The loss of the arguments, in real numbers. -/
def lossReal (z : (⟨2, ![2048, 2048]⟩ : Shape).Idx → EReal) (g : (⟨1, ![2048]⟩ : Shape).Idx → BitVec 32) (P : (⟨2, ![64, 2048]⟩ : Shape).Idx → EReal)
    (ma : (⟨1, ![2048]⟩ : Shape).Idx → EReal) (w : (⟨0, ![]⟩ : Shape).Idx → BitVec 1) : ℝ :=
  lossOf (framesOf z) (onOf g) (offOf g) (w ix0 = 1#1) (fun k d => (P (ix2 k d)).toReal) fun d => (ma (ix1 d)).toReal

section kernel

open Cert.KernelIdeal Cert.KernelIdeal.Gen

variable (m : (b : Loc nD τ sig) → Buf (Elt Ideal) b)

theorem kernel_value (hz : ∀ i, (m (((0 : Dev nD).tc : Thread nD τ).loc main_arg0) : Vec Ideal S2048x2048 .f32) i = ((((m (((0 : Dev nD).tc : Thread nD τ).loc main_arg0) : Vec Ideal S2048x2048 .f32) i : EReal).toReal : ℝ) : EReal))
    (hP : ∀ i, (m (((0 : Dev nD).tc : Thread nD τ).loc main_arg2) : Vec Ideal S64x2048 .f32) i = ((((m (((0 : Dev nD).tc : Thread nD τ).loc main_arg2) : Vec Ideal S64x2048 .f32) i : EReal).toReal : ℝ) : EReal))
    (hma : ∀ i, (m (((0 : Dev nD).tc : Thread nD τ).loc main_arg4) : Vec Ideal S2048 .f32) i = ((((m (((0 : Dev nD).tc : Thread nD τ).loc main_arg4) : Vec Ideal S2048 .f32) i : EReal).toReal : ℝ) : EReal)) :
    KernelIdeal.kout m = ((lossReal (m (((0 : Dev nD).tc : Thread nD τ).loc main_arg0)) (m (((0 : Dev nD).tc : Thread nD τ).loc main_arg1)) (m (((0 : Dev nD).tc : Thread nD τ).loc main_arg2))
      (m (((0 : Dev nD).tc : Thread nD τ).loc main_arg4)) (m (((0 : Dev nD).tc : Thread nD τ).loc main_arg5)) : ℝ) : EReal) := by
  classical
  unfold KernelIdeal.kout
  rw [KernelIdeal.host_init, KernelIdeal.host_off, KernelIdeal.host_mean, KernelIdeal.V_arg m 0 main_arg0 (by decide), KernelIdeal.V_arg m 0 main_arg1 (by decide), KernelIdeal.V_arg m 0 main_arg2 (by decide)]
  have h := KernelIdeal.kernelOut_value (onOf (m (((0 : Dev nD).tc : Thread nD τ).loc main_arg1))) (offOf (m (((0 : Dev nD).tc : Thread nD τ).loc main_arg1)))
    ((m (((0 : Dev nD).tc : Thread nD τ).loc main_arg5) : Vec Ideal S_ .i1) ix0 = (1#1 : BitVec 1)) (framesOf_real hz) (fun k d => hP (ix2 k d))
    (fun d => (KernelIdeal.mean_row_at _ d).trans (hma (ix1 d))) (fun i => (KernelIdeal.hit_iff _).trans (onOf_iff _ i))
    (fun i => (KernelIdeal.off_at (m (((0 : Dev nD).tc : Thread nD τ).loc main_arg1)) i).trans (by rw [if_congr (offOf_iff _ i) rfl rfl])) (KernelIdeal.init_at (m (((0 : Dev nD).tc : Thread nD τ).loc main_arg5)))
  refine h.trans ?_
  unfold lossReal
  congr!

end kernel

section reference

open Cert.ReferenceIdeal Cert.ReferenceIdeal.Gen Cert.ReferenceIdeal.Value

variable (m : (b : Loc nD τ sig) → Buf (Elt Ideal) b)

theorem reference_value (hz : ∀ i, (m (((0 : Dev nD).tc : Thread nD τ).loc main_arg0) : Vec Ideal S2048x2048 .f32) i = ((((m (((0 : Dev nD).tc : Thread nD τ).loc main_arg0) : Vec Ideal S2048x2048 .f32) i : EReal).toReal : ℝ) : EReal))
    (hP : ∀ i, (m (((0 : Dev nD).tc : Thread nD τ).loc main_arg2) : Vec Ideal S64x2048 .f32) i = ((((m (((0 : Dev nD).tc : Thread nD τ).loc main_arg2) : Vec Ideal S64x2048 .f32) i : EReal).toReal : ℝ) : EReal))
    (hma : ∀ i, (m (((0 : Dev nD).tc : Thread nD τ).loc main_arg4) : Vec Ideal S2048 .f32) i = ((((m (((0 : Dev nD).tc : Thread nD τ).loc main_arg4) : Vec Ideal S2048 .f32) i : EReal).toReal : ℝ) : EReal)) :
    (out_main_v64 (STEP^[2048] (StableHlo.entryContents preI m 0)) : Vec Ideal S_ .f32) ix0
      = ((lossReal (m (((0 : Dev nD).tc : Thread nD τ).loc main_arg0)) (m (((0 : Dev nD).tc : Thread nD τ).loc main_arg1)) (m (((0 : Dev nD).tc : Thread nD τ).loc main_arg2))
      (m (((0 : Dev nD).tc : Thread nD τ).loc main_arg4)) (m (((0 : Dev nD).tc : Thread nD τ).loc main_arg5)) : ℝ) : EReal) := by
  classical
  have hc := ReferenceIdeal.loop_value (onOf (m (((0 : Dev nD).tc : Thread nD τ).loc main_arg1))) (framesOf_real hz) (onOf_iff _) _
    (ReferenceIdeal.entry_carried m 0 (p := fun k d => ((m (((0 : Dev nD).tc : Thread nD τ).loc main_arg2) : Vec Ideal S64x2048 .f32) (ix2 k d) : EReal).toReal) fun k d => hP (ix2 k d)) 2048 (le_refl _)
  rw [ReferenceIdeal.out_eq, iter_main_arg0, iter_main_arg1, iter_main_arg4, iter_main_arg5]
  refine (ReferenceIdeal.out_at (framesOf_real hz) hc.p (offOf_iff _) (fun d => hma (ix1 d)) (init := (m (((0 : Dev nD).tc : Thread nD τ).loc main_arg5) : Vec Ideal S_ .i1) ix0 = (1#1 : BitVec 1)) ?_).trans ?_
  · generalize (m (((0 : Dev nD).tc : Thread nD τ).loc main_arg5) : Vec Ideal S_ .i1) ix0 = b
    change BitVec 1 at b
    by_cases hb : b = 1#1
    · rw [if_pos hb, hb]
    · rw [if_neg hb]
      revert hb; revert b; decide
  · unfold lossReal lossOf
    congr!

end reference

/-! ## The claim -/

theorem algebraic : algebraic_KernelIdeal_ReferenceIdeal_pre_finite (hKernelIdeal := Cert.KernelIdeal.Gen.facts) (hReferenceIdeal := Cert.ReferenceIdeal.Gen.facts) (hPre_finite := Cert.Pre_finite.Gen.facts) := by
  intro m g m' g' hpre hag
  obtain ⟨hz, hP, hma⟩ := finite_spec _ _ _ _ _ _ (hpre 0)
  obtain ⟨e0, e1, e2, e3, e4, e5⟩ := hag 0
  refine ⟨fun c => (fun _ => KernelIdeal.kout m : Vec Ideal Cert.KernelIdeal.S_ .f32), ?_, ?_⟩
  · exact (θ_run _ _ _).mono (fun _ h => h.1) (KernelIdeal.run_main m g)
  · refine (θ_run _ _ _).mono (fun r h c => ?_) (Cert.ReferenceIdeal.Value.run m' g')
    refine ⟨(h c).1.trans ?_, (h c).2⟩
    obtain rfl : c = 0 := Subsingleton.elim _ _
    have hr := reference_value m' (by rw [e0]; exact hz) (by rw [e2]; exact hP) (by rw [e4]; exact hma)
    rw [e0, e1, e2, e4, e5] at hr
    funext i
    rw [show i = ix0 from Subsingleton.elim (α := Cert.ReferenceIdeal.S_.Idx) _ _]
    exact hr.trans (kernel_value m hz hP hma).symm

end Cert.Proof

end
-- ==== Proof.lean ====
module

public import proofs.«01_k».proof.Defs
public import proofs.«01_k».proof.Proof.Gen.Pre_finite
public import proofs.«01_k».proof.Proof.Frames
public import proofs.«01_k».proof.Proof.Value

@[expose] public section

noncomputable section

namespace Cert.Proof

theorem claim : Cert.Claim :=
  ⟨Cert.Kernel.Gen.facts, Cert.KernelIdeal.Gen.facts, Cert.ReferenceIdeal.Gen.facts, Cert.Pre_finite.Gen.facts,
    kernel_frame, kernelIdeal_frame, kernelIdeal_frame_finite, reference_frame, reference_frame_finite, preserves, algebraic⟩

end Cert.Proof

end
